-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x12288 : Shape := ⟨3, ![2, 512, 12288]⟩
abbrev S2x512x64 : Shape := ⟨3, ![2, 512, 64]⟩
abbrev S96 : Shape := ⟨1, ![96]⟩
abbrev S2x512x96x128 : Shape := ⟨4, ![2, 512, 96, 128]⟩
abbrev S2x512x96 : Shape := ⟨3, ![2, 512, 96]⟩
abbrev S1x96 : Shape := ⟨2, ![1, 96]⟩
abbrev S1x8x12288 : Shape := ⟨3, ![1, 8, 12288]⟩
abbrev S1x8x64 : Shape := ⟨3, ![1, 8, 64]⟩
abbrev S1x8x96x128 : Shape := ⟨4, ![1, 8, 96, 128]⟩
abbrev S1x8x96 : Shape := ⟨3, ![1, 8, 96]⟩
abbrev S8x64 : Shape := ⟨2, ![8, 64]⟩
abbrev S8x128 : Shape := ⟨2, ![8, 128]⟩
abbrev S8x1x128 : Shape := ⟨3, ![8, 1, 128]⟩
abbrev S8x12288 : Shape := ⟨2, ![8, 12288]⟩
abbrev S8x96x128 : Shape := ⟨3, ![8, 96, 128]⟩
abbrev S8x96 : Shape := ⟨2, ![8, 96]⟩
abbrev S8x96x1 : Shape := ⟨3, ![8, 96, 1]⟩

abbrev nBuf : Space → Nat
  | .hbm => 13
  | .vmem => 22
  | .smem => 0
  | _ => 0

abbrev bufTy : (tb : Table) → Fin (tcTables nBuf tb) → BufTy
  | .hbm, ⟨0, _⟩ => ⟨S2x512x12288, .bf16⟩
  | .hbm, ⟨1, _⟩ => ⟨S2x512x64, .f32⟩
  | .hbm, ⟨2, _⟩ => ⟨S2x512x64, .f32⟩
  | .hbm, ⟨3, _⟩ => ⟨S96, .f32⟩
  | .hbm, ⟨4, _⟩ => ⟨S2x512x96x128, .fp8e5m2⟩
  | .hbm, ⟨5, _⟩ => ⟨S2x512x96, .f32⟩
  | .hbm, ⟨6, _⟩ => ⟨S1x96, .f32⟩
  | .hbm, ⟨7, _⟩ => ⟨S2x512x96x128, .fp8e5m2⟩
  | .hbm, ⟨8, _⟩ => ⟨S2x512x96, .f32⟩
  | .hbm, ⟨9, _⟩ => ⟨S1x96, .f32⟩
  | .hbm, ⟨10, _⟩ => ⟨S2x512x96, .f32⟩
  | .hbm, ⟨11, _⟩ => ⟨S2x512x96x128, .i8⟩
  | .hbm, ⟨12, _⟩ => ⟨S2x512x96, .f32⟩
  | .local _ .vmem, ⟨0, _⟩ => ⟨S1x8x12288, .bf16⟩
  | .local _ .vmem, ⟨1, _⟩ => ⟨S1x8x12288, .bf16⟩
  | .local _ .vmem, ⟨2, _⟩ => ⟨S1x8x64, .f32⟩
  | .local _ .vmem, ⟨3, _⟩ => ⟨S1x8x64, .f32⟩
  | .local _ .vmem, ⟨4, _⟩ => ⟨S1x8x64, .f32⟩
  | .local _ .vmem, ⟨5, _⟩ => ⟨S1x8x64, .f32⟩
  | .local _ .vmem, ⟨6, _⟩ => ⟨S1x96, .f32⟩
  | .local _ .vmem, ⟨7, _⟩ => ⟨S1x8x96x128, .fp8e5m2⟩
  | .local _ .vmem, ⟨8, _⟩ => ⟨S1x8x96x128, .fp8e5m2⟩
  | .local _ .vmem, ⟨9, _⟩ => ⟨S1x8x96, .f32⟩
  | .local _ .vmem, ⟨10, _⟩ => ⟨S1x8x96, .f32⟩
  | .local _ .vmem, ⟨11, _⟩ => ⟨S1x8x96x128, .fp8e5m2⟩
  | .local _ .vmem, ⟨12, _⟩ => ⟨S1x8x96x128, .fp8e5m2⟩
  | .local _ .vmem, ⟨13, _⟩ => ⟨S1x8x96, .f32⟩
  | .local _ .vmem, ⟨14, _⟩ => ⟨S1x8x96, .f32⟩
  | .local _ .vmem, ⟨15, _⟩ => ⟨S1x96, .f32⟩
  | .local _ .vmem, ⟨16, _⟩ => ⟨S1x8x96, .f32⟩
  | .local _ .vmem, ⟨17, _⟩ => ⟨S1x8x96, .f32⟩
  | .local _ .vmem, ⟨18, _⟩ => ⟨S1x8x96x128, .i8⟩
  | .local _ .vmem, ⟨19, _⟩ => ⟨S1x8x96x128, .i8⟩
  | .local _ .vmem, ⟨20, _⟩ => ⟨S1x8x96, .f32⟩
  | .local _ .vmem, ⟨21, _⟩ => ⟨S1x8x96, .f32⟩
  | _, _ => ⟨S2x512x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x96x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x96x128 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x96x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x512x12288 : Shape := ⟨3, ![2, 512, 12288]⟩
abbrev S2x512x64 : Shape := ⟨3, ![2, 512, 64]⟩
abbrev S96 : Shape := ⟨1, ![96]⟩
abbrev S2x512x96x128 : Shape := ⟨4, ![2, 512, 96, 128]⟩
abbrev S2x512x96 : Shape := ⟨3, ![2, 512, 96]⟩
abbrev S1x96 : Shape := ⟨2, ![1, 96]⟩
abbrev S2x512x1x64 : Shape := ⟨4, ![2, 512, 1, 64]⟩
abbrev S2x512x96x64 : Shape := ⟨4, ![2, 512, 96, 64]⟩
abbrev S1x1x96 : Shape := ⟨3, ![1, 1, 96]⟩
abbrev S2x512x96x1 : Shape := ⟨4, ![2, 512, 96, 1]⟩
abbrev S2x512x96x254 : Shape := ⟨4, ![2, 512, 96, 254]⟩

abbrev nBuf : Space → Nat
  | .hbm => 12
  | .vmem => 12
  | .smem => 0
  | _ => 0

abbrev bufTy : (tb : Table) → Fin (tcTables nBuf tb) → BufTy
  | .hbm, ⟨0, _⟩ => ⟨S2x512x12288, .bf16⟩
  | .hbm, ⟨1, _⟩ => ⟨S2x512x64, .f32⟩
  | .hbm, ⟨2, _⟩ => ⟨S2x512x64, .f32⟩
  | .hbm, ⟨3, _⟩ => ⟨S96, .f32⟩
  | .hbm, ⟨4, _⟩ => ⟨S2x512x96x128, .fp8e5m2⟩
  | .hbm, ⟨5, _⟩ => ⟨S2x512x96, .f32⟩
  | .hbm, ⟨6, _⟩ => ⟨S2x512x96x128, .fp8e5m2⟩
  | .hbm, ⟨7, _⟩ => ⟨S2x512x96, .f32⟩
  | .hbm, ⟨8, _⟩ => ⟨S1x96, .f32⟩
  | .hbm, ⟨9, _⟩ => ⟨S2x512x96, .f32⟩
  | .hbm, ⟨10, _⟩ => ⟨S2x512x96x128, .i8⟩
  | .hbm, ⟨11, _⟩ => ⟨S2x512x96, .f32⟩
  | .local _ .vmem, ⟨0, _⟩ => ⟨S2x512x12288, .bf16⟩
  | .local _ .vmem, ⟨1, _⟩ => ⟨S2x512x64, .f32⟩
  | .local _ .vmem, ⟨2, _⟩ => ⟨S2x512x64, .f32⟩
  | .local _ .vmem, ⟨3, _⟩ => ⟨S96, .f32⟩
  | .local _ .vmem, ⟨4, _⟩ => ⟨S2x512x96x128, .fp8e5m2⟩
  | .local _ .vmem, ⟨5, _⟩ => ⟨S2x512x96, .f32⟩
  | .local _ .vmem, ⟨6, _⟩ => ⟨S2x512x96x128, .fp8e5m2⟩
  | .local _ .vmem, ⟨7, _⟩ => ⟨S2x512x96, .f32⟩
  | .local _ .vmem, ⟨8, _⟩ => ⟨S1x96, .f32⟩
  | .local _ .vmem, ⟨9, _⟩ => ⟨S2x512x96, .f32⟩
  | .local _ .vmem, ⟨10, _⟩ => ⟨S2x512x96x128, .i8⟩
  | .local _ .vmem, ⟨11, _⟩ => ⟨S2x512x96, .f32⟩
  | _, _ => ⟨S2x512x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x512x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x96x128 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x96x128 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x512x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512x96x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Row.lean ====
/- One row of the problem: the 128 lanes of one head at one token, and what each result holds there. Nothing here
   is about a program; the kernel's blocks and the reference's arrays are both read down to these definitions. -/
module

public import Idealize.ShloMosaic.Lib.Pointwise

@[expose] public section

noncomputable section

namespace Cert.Proof

open Idealize.ShloMosaic

/-- The greatest int4 code, 7, and its negative. -/
def seven : EReal := Ideal.ofBits .f32 0x40E00000#32
def negSeven : EReal := Ideal.ofBits .f32 0xC0E00000#32

/-- `1 / 57344` in binary32, the factor that turns a row's greatest magnitude into the number whose exponent is taken. -/
def perMax : EReal := Ideal.ofBits .f32 0x37924925#32

/-- What the six arguments hold for one head at one token: the key's lanes, the rotation's cosines and sines, the head's
    learned `alpha`, the gradient's codes and their scale. -/
structure Row where
  key : Fin 128 → EReal
  cosine : Fin 64 → EReal
  sine : Fin 64 → EReal
  alpha : EReal
  codes : Fin 128 → EReal
  scale : EReal

/-- The greatest magnitude of a row's 128 lanes. -/
def absMax (v : Fin 128 → EReal) : EReal :=
  Finset.fold max (Ideal.ofBits .f32 0xFF800000#32) (fun d => FloatOps.absf (F := Ideal) (φ := .f32) (v d)) Finset.univ

/-- The exponent candidate `j - 126`, `j` below 254. -/
def candidate (j : Fin 254) : EReal :=
  FloatOps.sitofp (F := Ideal) .f32 (BitVec.ofNat 32 j.val) - Ideal.ofBits .f32 0x42FC0000#32

/-- `frexp`'s exponent of `y`: one more than the largest candidate whose power of two is at most `y`, −126 if none is. -/
def exponent (y : EReal) : EReal :=
  Finset.fold max (Ideal.ofBits .f32 0xFF800000#32)
    (fun j : Fin 254 => if FloatOps.exp2 (F := Ideal) (φ := .f32) (candidate j) ≤ y then candidate j + 1
      else Ideal.ofBits .f32 0xC2FC0000#32) Finset.univ

/-- The exponent of the e5m2 scale of a row with greatest magnitude `a`: 0 for a row of zeros. -/
def scaleExponent (a : EReal) : EReal := if a = 0 then 0 else exponent (a * perMax)

/-- The e5m2 scale, a power of two, of a row with greatest magnitude `a`. -/
def scaleOf (a : EReal) : EReal :=
  if a * perMax < Ideal.ofBits .f32 0x7F000000#32 then FloatOps.exp2 (F := Ideal) (φ := .f32) (scaleExponent a)
  else if a * perMax < Ideal.ofBits .f32 0x7F800000#32 then Ideal.ofBits .f32 0x7F800000#32 else 0

/-- The factor that brings a row with greatest magnitude `a` into e5m2's range, the scale's reciprocal. -/
def inverseOf (a : EReal) : EReal :=
  if a * perMax < Ideal.ofBits .f32 0x7E800000#32 then FloatOps.exp2 (F := Ideal) (φ := .f32) (0 - scaleExponent a)
  else if a * perMax < Ideal.ofBits .f32 0x7F000000#32 then 0
  else if a * perMax < Ideal.ofBits .f32 0x7F800000#32 then Ideal.ofBits .f32 0xFF800000#32
  else Ideal.ofBits .f32 0xFF000000#32

/-- The int4 code of a ratio: rounded to nearest even and clipped to [−7, 7]. -/
def code (r : EReal) : EReal := min seven (max negSeven (Ideal.liftRound Ideal.roundHalfEven r))

namespace Row

variable (R : Row)

/-- The rotated key: the two halves turned by the angle of each lane pair. -/
def rotated (d : Fin 128) : EReal :=
  if h : d.val < 64 then
    R.key ⟨d.val, d.isLt⟩ * R.cosine ⟨d.val, h⟩ - R.key ⟨64 + d.val, by omega⟩ * R.sine ⟨d.val, h⟩
  else
    R.key ⟨64 + (d.val - 64), by omega⟩ * R.cosine ⟨d.val - 64, by omega⟩
      + R.key ⟨d.val - 64, by omega⟩ * R.sine ⟨d.val - 64, by omega⟩

/-- The rotated key's greatest magnitude. -/
def keyMax : EReal := absMax R.rotated

/-- The int4 scale (result 6). -/
def keyScale : EReal := if R.keyMax = 0 then 1 else Ideal.div (R.alpha * R.keyMax) seven

/-- The rotated key over its scale. -/
def ratio (d : Fin 128) : EReal := Ideal.div (R.rotated d) R.keyScale

/-- The int4 code (result 5 before its cast to int8). -/
def keyCode (d : Fin 128) : EReal := code (R.ratio d)

/-- The gradient that came in: codes times scale. -/
def grad (d : Fin 128) : EReal := R.codes d * R.scale

/-- `alpha`'s gradient at this token and head (result 4). -/
def alphaGrad : EReal :=
  (∑ d, R.grad d * if FloatOps.absf (F := Ideal) (φ := .f32) (R.ratio d) ≤ seven then R.keyCode d - R.ratio d else R.keyCode d)
    * Ideal.div R.keyMax seven

/-- The gradient let through where the ratio was in range. -/
def passed (d : Fin 128) : EReal :=
  if FloatOps.absf (F := Ideal) (φ := .f32) (R.ratio d) ≤ seven then R.grad d else 0

/-- The gradient turned back by the rotation. -/
def keyGrad (d : Fin 128) : EReal :=
  if h : d.val < 64 then
    R.passed ⟨d.val, d.isLt⟩ * R.cosine ⟨d.val, h⟩ + R.passed ⟨64 + d.val, by omega⟩ * R.sine ⟨d.val, h⟩
  else
    R.passed ⟨64 + (d.val - 64), by omega⟩ * R.cosine ⟨d.val - 64, by omega⟩
      - R.passed ⟨d.val - 64, by omega⟩ * R.sine ⟨d.val - 64, by omega⟩

/-- Its greatest magnitude. -/
def gradMax : EReal := absMax R.keyGrad

/-- The e5m2 scale of the key's gradient (result 2). -/
def gradScale : EReal := scaleOf R.gradMax

/-- The e5m2 code of the key's gradient (result 1): clipped to ±57344. -/
def gradCode (d : Fin 128) : EReal :=
  min (Ideal.ofBits .f32 0x47600000#32) (max (Ideal.ofBits .f32 0xC7600000#32) (R.keyGrad d * inverseOf R.gradMax))

end Row

end Cert.Proof

end
-- ==== Proof.Field.lean ====
/- The exponent field of a non-negative extended real, found bit by bit, and the power of two each field names. -/
module

public import proofs.«01_k».proof.Proof.Row

@[expose] public section

set_option maxRecDepth 16384

noncomputable section

namespace Cert.Proof.Field

open Idealize.ShloMosaic Cert.Proof

/-- The extended real whose binary32 word has the exponent field `f` and no other bit: `f`'s low nine bits
    moved to the top of the word. -/
def word (f : BitVec 32) : EReal := Ideal.ofBits .f32 (IntOp.shli .vector f 23#32)

/-- One step of the search: the bit `b` is added to the field when the word it makes is at most `y`. -/
def step (y : EReal) (f b : BitVec 32) : BitVec 32 :=
  if word (IntOp.addi f b) ≤ y then IntOp.addi f b else f

/-- The eight-step search for the largest field whose word is at most `y`. -/
def search (y : EReal) : BitVec 32 :=
  step y (step y (step y (step y (step y (step y (step y (step y 0#32 128#32) 64#32) 32#32) 16#32) 8#32) 4#32) 2#32) 1#32

/-- The exponent of a row whose greatest magnitude is `a`: the field found less 126, 0 for a row of zeros. -/
def exponentOf (a : EReal) : BitVec 32 := if a = 0 then 0#32 else IntOp.subi (search (a * perMax)) 126#32

/-- The bits of a field's word: sign clear, the field in place, no fraction. -/
theorem word_bits : ∀ n : Fin 256,
    ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- What a binary32 word without sign and fraction denotes, by its exponent field. -/
theorem ofBits_of_field (b : BitVec 32) (n : ℕ) (h1 : (b.extractLsb' 31 1 == 1#1) = false)
    (h2 : (b.extractLsb' 23 8).toNat = n) (h3 : (b.extractLsb' 0 23).toNat = 0) :
    Ideal.ofBits .f32 b = if n = 255 then ⊤ else if n = 0 then 0 else (((2 : ℝ) ^ ((n : ℤ) - 127) : ℝ) : EReal) := by
  show Ideal.ieee 8 23 b = _
  unfold Ideal.ieee
  simp only [Nat.reduceAdd, h1, h2, h3]
  by_cases h255 : n = 255
  · rw [if_pos (by rw [h255]; norm_num), if_pos trivial, if_pos h255, if_neg (by decide)]
  · rw [if_neg (by norm_num; exact h255), if_neg h255]
    by_cases h0 : n = 0
    · rw [if_pos h0, if_pos h0]; norm_num
    · rw [if_neg h0, if_neg h0]
      congr 1
      rw [show ((2 ^ 23 + 0 : ℕ) : ℝ) = (2 : ℝ) ^ (23 : ℤ) by norm_num, if_neg (by decide), one_mul,
        ← zpow_add₀ (by norm_num)]
      congr 1
      norm_num

/-- The word of the field `n`: zero at 0, infinity at 255, `2^(n - 127)` between. -/
theorem word_ofNat (n : ℕ) (hn : n < 256) :
    word (BitVec.ofNat 32 n) = if n = 255 then ⊤ else if n = 0 then 0 else (((2 : ℝ) ^ ((n : ℤ) - 127) : ℝ) : EReal) :=
  ofBits_of_field _ n (word_bits ⟨n, hn⟩).1 (word_bits ⟨n, hn⟩).2.1 (word_bits ⟨n, hn⟩).2.2

/-- The field one past the last but one, 256, has the word of minus zero. -/
theorem word_256 : word (BitVec.ofNat 32 256) = 0 := by
  have : IntOp.shli .vector (BitVec.ofNat 32 256) 23#32 = 0x80000000#32 := by decide +kernel
  unfold word; rw [this]
  simp [Ideal.ofBits, Ideal.ieee, -EReal.coe_mul]

/-- The field −1 has the word of minus infinity. -/
theorem word_neg_one : word (BitVec.ofInt 32 (-1)) = ⊥ := by
  have : IntOp.shli .vector (BitVec.ofInt 32 (-1)) 23#32 = 0xFF800000#32 := by decide +kernel
  unfold word; rw [this]
  simp [Ideal.ofBits, Ideal.ieee, -EReal.coe_mul]

/-- The field −2 has the word `0xFF000000`. -/
theorem word_neg_two : word (BitVec.ofInt 32 (-2)) = Ideal.ofBits .f32 0xFF000000#32 := by
  have : IntOp.shli .vector (BitVec.ofInt 32 (-2)) 23#32 = 0xFF000000#32 := by decide +kernel
  unfold word; rw [this]

/-- What the search knows after some steps: the field found so far is `n`, its word is at most `y`, and the word
    `w` further on is above `y` (or past every field). -/
def Known (y : EReal) (f : BitVec 32) (w : ℕ) : Prop :=
  ∃ n : ℕ, f = BitVec.ofNat 32 n ∧ n + w ≤ 256 ∧ word (BitVec.ofNat 32 n) ≤ y
    ∧ (n + w = 256 ∨ y < word (BitVec.ofNat 32 (n + w)))

/-- A step with the bit `w` halves what is left open. -/
theorem known_step (y : EReal) (f : BitVec 32) (w : ℕ) (hk : Known y f (2 * w)) :
    Known y (step y f (BitVec.ofNat 32 w)) w := by
  obtain ⟨n, rfl, hn, hle, hlt⟩ := hk
  have hadd : IntOp.addi (BitVec.ofNat 32 n) (BitVec.ofNat 32 w) = BitVec.ofNat 32 (n + w) := by
    unfold IntOp.addi; rw [BitVec.ofNat_add]
  unfold step
  rw [hadd]
  by_cases h : word (BitVec.ofNat 32 (n + w)) ≤ y
  · rw [if_pos h]
    exact ⟨n + w, rfl, by omega, h, by rcases hlt with h | h <;> [left; right] <;> [omega; (rwa [show n + w + w = n + 2 * w by omega])]⟩
  · rw [if_neg h]
    exact ⟨n, rfl, by omega, hle, .inr (not_le.mp h)⟩

/-- THE SEARCH finds the field whose word is at most `y` while the next field's is above it. -/
theorem search_spec (y : EReal) (hy : 0 ≤ y) :
    ∃ n : ℕ, n < 256 ∧ search y = BitVec.ofNat 32 n ∧ word (BitVec.ofNat 32 n) ≤ y
      ∧ (n = 255 ∨ y < word (BitVec.ofNat 32 (n + 1))) := by
  have h0 : Known y 0#32 (2 * 128) := ⟨0, rfl, by omega, by rw [word_ofNat 0 (by omega)]; simpa using hy, .inl rfl⟩
  have h := known_step y _ 1 (known_step y _ 2 (known_step y _ 4 (known_step y _ 8 (known_step y _ 16
    (known_step y _ 32 (known_step y _ 64 (known_step y _ 128 h0)))))))
  obtain ⟨n, hf, hn, hle, hlt⟩ := h
  exact ⟨n, by omega, hf, hle, by rcases hlt with h | h <;> [left; right] <;> [omega; exact h]⟩

end Cert.Proof.Field

end
-- ==== Proof.Scale.lean ====
/- The equation of the two programs' scales: the word the kernel makes from the exponent field it finds is the
   reference's power of two. -/
module

public import proofs.«01_k».proof.Proof.Field

@[expose] public section

set_option maxRecDepth 16384

noncomputable section

namespace Cert.Proof.Field

open Idealize.ShloMosaic Cert.Proof

/-- The exponent candidate as a real. -/
theorem candidate_eq (j : Fin 254) : candidate j = (((j.val : ℤ) - 126 : ℤ) : ℝ) := by
  have h1 : FloatOps.sitofp (F := Ideal) .f32 (BitVec.ofNat 32 j.val) = ((j.val : ℝ) : EReal) := by
    show (((BitVec.ofNat 32 j.val).toInt : ℝ) : EReal) = _
    have : (BitVec.ofNat 32 j.val).toInt = j.val := by
      rw [BitVec.toInt_eq_toNat_of_lt] <;> simp [Nat.mod_eq_of_lt (show j.val < 4294967296 by omega)]
      omega
    rw [this]; simp
  have h2 : Ideal.ofBits .f32 0x42FC0000#32 = ((126 : ℝ) : EReal) := by
    simp [Ideal.ofBits, Ideal.ieee, -EReal.coe_mul]; norm_num
  unfold candidate
  rw [h1, h2, ← EReal.coe_sub]
  norm_num

/-- Two to the power of an integer. -/
theorem exp2_int (z : ℤ) : FloatOps.exp2 (F := Ideal) (φ := .f32) (((z : ℝ) : EReal)) = (((2 : ℝ) ^ z : ℝ) : EReal) := by
  show Ideal.exp2 _ = _
  rw [Ideal.exp2_coe]
  exact congrArg (fun r : ℝ => (r : EReal)) (Real.rpow_intCast 2 z)

/-- −126, the exponent where no candidate's power is small enough. -/
theorem ofBits_neg126 : Ideal.ofBits .f32 0xC2FC0000#32 = (((-126 : ℤ) : ℝ) : EReal) := by
  simp [Ideal.ofBits, Ideal.ieee, -EReal.coe_mul]; norm_num

/-- Minus infinity. -/
theorem ofBits_bot : Ideal.ofBits .f32 0xFF800000#32 = ⊥ := by
  simp [Ideal.ofBits, Ideal.ieee]

/-- The factor `1 / 57344` is positive. -/
theorem perMax_pos : 0 < perMax := by
  unfold perMax
  simp [Ideal.ofBits, Ideal.ieee, -EReal.coe_mul]

/-- The fields' words increase up to infinity's. -/
theorem word_lt {m n : ℕ} (h : m < n) (hn : n < 256) : word (BitVec.ofNat 32 m) < word (BitVec.ofNat 32 n) := by
  rw [word_ofNat m (by omega), word_ofNat n hn, if_neg (by omega : ¬ m = 255), if_neg (by omega : ¬ n = 0)]
  by_cases h255 : n = 255
  · rw [if_pos h255]
    by_cases hm : m = 0
    · rw [if_pos hm]; exact EReal.zero_lt_top
    · rw [if_neg hm]; exact EReal.coe_lt_top _
  · rw [if_neg h255]
    by_cases hm : m = 0
    · rw [if_pos hm]; exact EReal.coe_pos.mpr (by positivity)
    · rw [if_neg hm]; exact EReal.coe_lt_coe_iff.mpr (zpow_lt_zpow_right₀ (by norm_num) (by omega))

/-- The fields' words do not decrease. -/
theorem word_le {m n : ℕ} (h : m ≤ n) (hn : n < 256) : word (BitVec.ofNat 32 m) ≤ word (BitVec.ofNat 32 n) := by
  rcases h.eq_or_lt with rfl | h
  · exact le_rfl
  · exact (word_lt h hn).le

variable {y : EReal} {n : ℕ} (hn : n < 256) (hle : word (BitVec.ofNat 32 n) ≤ y)
  (hlt : n = 255 ∨ y < word (BitVec.ofNat 32 (n + 1)))
include hn hle hlt

/-- A number is below the word of `m` exactly where the field found for it is below `m`. -/
theorem lt_word_iff (m : ℕ) (hm : m < 256) : y < word (BitVec.ofNat 32 m) ↔ n < m := by
  constructor
  · intro h
    by_contra hc
    exact absurd (h.trans_le ((word_le (not_lt.mp hc) hn).trans hle)) (lt_irrefl _)
  · intro h
    rcases hlt with h' | h'
    · omega
    · exact h'.trans_le (word_le h hm)

/-- A candidate's power of two is at most the number exactly where the candidate's field is at most the field found. -/
theorem candidate_le_iff (j : Fin 254) : FloatOps.exp2 (F := Ideal) (φ := .f32) (candidate j) ≤ y ↔ j.val + 1 ≤ n := by
  have e : FloatOps.exp2 (F := Ideal) (φ := .f32) (candidate j) = word (BitVec.ofNat 32 (j.val + 1)) := by
    rw [candidate_eq, exp2_int, word_ofNat _ (by omega), if_neg (by omega), if_neg (by omega)]
    congr 2
    push_cast
    ring
  rw [e, ← not_lt, lt_word_iff hn hle hlt (j.val + 1) (by omega), not_lt]

/-- The exponent is the field found less 126, for a finite number. -/
theorem exponent_eq (h254 : n ≤ 254) : exponent y = ((((n : ℤ) - 126 : ℤ) : ℝ) : EReal) := by
  have one (j : Fin 254) : candidate j + 1 = ((((j.val : ℤ) - 125 : ℤ) : ℝ) : EReal) := by
    rw [candidate_eq, ← EReal.coe_one, ← EReal.coe_add]
    refine congrArg (fun r : ℝ => (r : EReal)) ?_
    push_cast
    ring
  unfold exponent
  apply le_antisymm
  · rw [Finset.fold_max_le]
    refine ⟨by rw [ofBits_bot]; exact bot_le, fun j _ => ?_⟩
    rw [one, ofBits_neg126]
    split
    · rename_i h
      have := (candidate_le_iff hn hle hlt j).mp h
      exact EReal.coe_le_coe_iff.mpr (by exact_mod_cast (by omega : (j.val : ℤ) - 125 ≤ n - 126))
    · exact EReal.coe_le_coe_iff.mpr (by exact_mod_cast (by omega : (-126 : ℤ) ≤ n - 126))
  · rw [Finset.le_fold_max]
    right
    by_cases h0 : n = 0
    · refine ⟨0, Finset.mem_univ _, ?_⟩
      rw [if_neg (by rw [candidate_le_iff hn hle hlt]; omega), ofBits_neg126, h0]
      norm_num
    · refine ⟨⟨n - 1, by omega⟩, Finset.mem_univ _, ?_⟩
      rw [if_pos (by rw [candidate_le_iff hn hle hlt]; show n - 1 + 1 ≤ n; omega), one]
      exact EReal.coe_le_coe_iff.mpr (by exact_mod_cast (by show (n : ℤ) - 126 ≤ ((n - 1 : ℕ) : ℤ) - 125; omega))

omit hn hle hlt

/-- The scale's field from the field found. -/
theorem scale_bits : ∀ n : Fin 256,
    IntOp.addi (IntOp.subi (BitVec.ofNat 32 n.val) 126#32) 127#32 = BitVec.ofNat 32 (n.val + 1) := by
  decide +kernel

/-- The inverse's field from the field found. -/
theorem inverse_bits : ∀ n : Fin 256,
    IntOp.addi (IntOp.subi 0#32 (IntOp.subi (BitVec.ofNat 32 n.val) 126#32)) 127#32 = BitVec.ofInt 32 (253 - (n.val : ℤ)) := by
  decide +kernel

/-- The inverse's field where it is a natural number. -/
theorem inverse_nat : ∀ n : Fin 254, BitVec.ofInt 32 (253 - (n.val : ℤ)) = BitVec.ofNat 32 (253 - n.val) := by
  decide +kernel

/-- The thresholds of the scales are words of fields. -/
theorem threshold_253 : Ideal.ofBits .f32 0x7E800000#32 = word (BitVec.ofNat 32 253) := by
  unfold word
  rw [show IntOp.shli .vector (BitVec.ofNat 32 253) 23#32 = 0x7E800000#32 by decide +kernel]

theorem threshold_254 : Ideal.ofBits .f32 0x7F000000#32 = word (BitVec.ofNat 32 254) := by
  unfold word
  rw [show IntOp.shli .vector (BitVec.ofNat 32 254) 23#32 = 0x7F000000#32 by decide +kernel]

theorem threshold_255 : Ideal.ofBits .f32 0x7F800000#32 = word (BitVec.ofNat 32 255) := by
  unfold word
  rw [show IntOp.shli .vector (BitVec.ofNat 32 255) 23#32 = 0x7F800000#32 by decide +kernel]

/-- The scale of a row of zeros is one. -/
theorem exp2_zero : FloatOps.exp2 (F := Ideal) (φ := .f32) (0 : EReal) = word (BitVec.ofNat 32 127) := by
  rw [show (0 : EReal) = (((0 : ℤ) : ℝ) : EReal) by norm_num, exp2_int, word_ofNat 127 (by omega)]
  norm_num

/-- THE SCALES AGREE: the word of the kernel's exponent is the reference's scale. -/
theorem scale_eq (a : EReal) (ha : 0 ≤ a) : word (IntOp.addi (exponentOf a) 127#32) = scaleOf a := by
  obtain ⟨n, hn, hs, hle, hlt⟩ := search_spec (a * perMax) (mul_nonneg ha perMax_pos.le)
  unfold exponentOf scaleOf scaleExponent
  simp only [threshold_254, threshold_255, lt_word_iff hn hle hlt 254 (by omega), lt_word_iff hn hle hlt 255 (by omega)]
  by_cases h0 : a = 0
  · have hn0 : n < 254 := by
      rw [← lt_word_iff hn hle hlt 254 (by omega), h0, zero_mul]
      have := word_lt (m := 0) (n := 254) (by omega) (by omega)
      rwa [word_ofNat 0 (by omega), if_neg (by omega), if_pos rfl] at this
    rw [if_pos h0, if_pos h0, if_pos hn0, exp2_zero]
    rfl
  · rw [if_neg h0, if_neg h0, hs, scale_bits ⟨n, hn⟩]
    by_cases h1 : n < 254
    · rw [if_pos h1, exponent_eq hn hle hlt (by omega), exp2_int, word_ofNat _ (by show n + 1 < 256; omega),
        if_neg (by show ¬ n + 1 = 255; omega), if_neg (by show ¬ n + 1 = 0; omega)]
      congr 2
      push_cast
      ring
    · rw [if_neg h1]
      by_cases h2 : n < 255
      · rw [if_pos h2]
        have : n = 254 := by omega
        subst this
        rfl
      · rw [if_neg h2]
        have : n = 255 := by omega
        subst this
        exact word_256

/-- THE INVERSES AGREE: the word of the kernel's negated exponent is the reference's inverse. -/
theorem inverse_eq (a : EReal) (ha : 0 ≤ a) :
    word (IntOp.addi (IntOp.subi 0#32 (exponentOf a)) 127#32) = inverseOf a := by
  obtain ⟨n, hn, hs, hle, hlt⟩ := search_spec (a * perMax) (mul_nonneg ha perMax_pos.le)
  unfold exponentOf inverseOf scaleExponent
  simp only [threshold_253, threshold_254, threshold_255, lt_word_iff hn hle hlt 253 (by omega),
    lt_word_iff hn hle hlt 254 (by omega), lt_word_iff hn hle hlt 255 (by omega)]
  by_cases h0 : a = 0
  · have hn0 : n < 253 := by
      rw [← lt_word_iff hn hle hlt 253 (by omega), h0, zero_mul]
      have := word_lt (m := 0) (n := 253) (by omega) (by omega)
      rwa [word_ofNat 0 (by omega), if_neg (by omega), if_pos rfl] at this
    rw [if_pos h0, if_pos h0, if_pos hn0, zero_sub, neg_zero, exp2_zero]
    rfl
  · rw [if_neg h0, if_neg h0, hs, inverse_bits ⟨n, hn⟩]
    by_cases h1 : n < 253
    · rw [if_pos h1, exponent_eq hn hle hlt (by omega), inverse_nat ⟨n, by omega⟩, word_ofNat _ (by show 253 - n < 256; omega),
        if_neg (by show ¬ 253 - n = 255; omega), if_neg (by show ¬ 253 - n = 0; omega), zero_sub, ← EReal.coe_neg,
        show -((((n : ℤ) - 126 : ℤ) : ℝ)) = (((126 - (n : ℤ) : ℤ)) : ℝ) by push_cast; ring, exp2_int]
      congr 2
      show ((253 - n : ℕ) : ℤ) - 127 = _
      omega
    · rw [if_neg h1]
      by_cases h2 : n < 254
      · rw [if_pos h2]
        have : n = 253 := by omega
        subst this
        rw [inverse_nat ⟨253, by omega⟩, word_ofNat _ (by omega)]
        rfl
      · rw [if_neg h2]
        by_cases h3 : n < 255
        · rw [if_pos h3]
          have : n = 254 := by omega
          subst this
          rw [ofBits_bot]
          exact word_neg_one
        · rw [if_neg h3]
          have : n = 255 := by omega
          subst this
          exact word_neg_two

/-- A greatest magnitude is not negative. -/
theorem absMax_nonneg (v : Fin 128 → EReal) : 0 ≤ absMax v := by
  unfold absMax
  rw [Finset.le_fold_max]
  right
  refine ⟨0, Finset.mem_univ _, ?_⟩
  show (0 : EReal) ≤ max (v 0) (-(v 0))
  rcases le_total 0 (v 0) with h | h
  · exact h.trans (le_max_left _ _)
  · exact (EReal.neg_nonneg.mpr h).trans (le_max_right _ _)

end Cert.Proof.Field

end
-- ==== Proof.Block.lean ====
/- What one grid point of the kernel computes, element by element: each payload of the body is the row function of
   `Row.lean` at the row its token and head name within the point's blocks. -/
module

public import proofs.«01_k».proof.Proof.Row
public import proofs.«01_k».proof.Proof.Scale
public import proofs.«01_k».proof.Proof.Gen.KernelIdeal.Skeleton

@[expose] public section

set_option maxRecDepth 16384

noncomputable section

namespace Cert.KernelIdeal.Block

open Cert.KernelIdeal Cert.KernelIdeal.Gen Idealize.ShloMosaic Cert.Proof

variable (k : Vec Ideal S1x8x12288 .bf16) (c s : Vec Ideal S1x8x64 .f32) (al : Vec Ideal S1x96 .f32)
variable (q : Vec Ideal S1x8x96x128 .fp8e5m2) (g : Vec Ideal S1x8x96 .f32)
variable (p : Fin 8) (h : Fin 96)

/-- The row of the point's blocks at token `p` of the block, head `h`. -/
def row : Row where
  key d := k (ix3 0 p ⟨h.val * 128 + d.val, by omega⟩)
  cosine d := c (ix3 0 p d)
  sine d := s (ix3 0 p d)
  alpha := al (ix2 0 h)
  codes d := q (ix4 0 p h d)
  scale := g (ix3 0 p h)

/-- A lane of the first half turned half a row round is the lane 64 further on. -/
theorem turn_lo (d : Fin 128) (hd : d.val < 64) : (d.val + 128 - 64) % 128 = 64 + d.val := by omega

/-- A lane of the second half turned half a row round is the lane 64 back. -/
theorem turn_hi (d : Fin 128) (hd : ¬ d.val < 64) : (d.val + 128 - 64) % 128 = d.val - 64 := by omega

/-- Adding a product with a negated factor subtracts the product. -/
theorem add_mul_neg (x y z : EReal) : x + y * (0 - z) = x - y * z := by
  rw [zero_sub, mul_neg, ← sub_eq_add_neg]

/-- Subtracting a product with a negated factor adds the product. -/
theorem sub_mul_neg (x y z : EReal) : x - y * (0 - z) = x + y * z := by
  rw [zero_sub, mul_neg, sub_eq_add_neg, neg_neg]

/-- The rotated key. -/
theorem pay7_eq (d : Fin 128) : k0_pay7 c s k (ix3 p h d) = (row k c s al q g p h).rotated d := by
  pointwise [k0_pay7, k0_pay6, k0_pay5]
  unfold Row.rotated
  by_cases hd : d.val < 64
  · simp only [hd, dif_pos, if_pos, turn_lo d hd, add_mul_neg]
    rfl
  · have e : 64 + (d.val - 64) = d.val := by omega
    simp only [hd, dif_neg, if_neg, not_false_eq_true, turn_hi d hd, e]
    rfl

/-- The greatest magnitude of a row. -/
theorem absMax_read (B : FVec Ideal S8x96x128 .f32) (h1 h2 h3) :
    multiReduction .maximumf [2] S8x96 (absf B) 0xFF800000#32 h1 h2 h3 (ix2 p h) = absMax fun d => B (ix3 p h d) := by
  pointwise
  rfl

/-- The rotated key's greatest magnitude. -/
theorem pay8_eq : k0_pay8 c s k (ix2 p h) = (row k c s al q g p h).keyMax := by
  refine (absMax_read p h (k0_pay7 c s k) _ (.inl rfl) rfl).trans ?_
  simp only [pay7_eq k c s al q g p h]
  rfl

/-- The int4 scale from its row maximum. -/
theorem scale_read (A : FVec Ideal S8x96 .f32) (h1 h2) :
    select (cmpf .oeq A (broadcast S8x96 (Scalar.ofBits (F := Ideal) .f32 0x00000000#32)))
      (broadcast S8x96 (Scalar.ofBits (F := Ideal) .f32 0x3F800000#32))
      (divf (mulf (broadcastTo S8x96 (shapeCast S1x96 al h1) h2) A)
        (broadcast S8x96 (Scalar.ofBits (F := Ideal) .f32 0x40E00000#32))) (ix2 p h)
      = if A (ix2 p h) = 0 then 1 else Ideal.div (al (ix2 0 h) * A (ix2 p h)) seven := by
  pointwise
  rfl

/-- The int4 scale. -/
theorem pay9_eq : k0_pay9 c s k al (ix2 p h) = (row k c s al q g p h).keyScale := by
  refine (scale_read al p h (k0_pay8 c s k) _ _).trans ?_
  rw [pay8_eq k c s al q g p h]
  rfl

/-- A lane over its row's scale. -/
theorem ratio_read (A : FVec Ideal S8x96 .f32) (B : FVec Ideal S8x96x128 .f32) (h1 h2) (d : Fin 128) :
    divf B (broadcastTo S8x96x128 (shapeCast S8x96x1 A h1) h2) (ix3 p h d)
      = Ideal.div (B (ix3 p h d)) (A (ix2 p h)) := by
  pointwise

/-- The rotated key over its scale. -/
theorem pay10_eq (d : Fin 128) : k0_pay10 c s k al (ix3 p h d) = (row k c s al q g p h).ratio d := by
  refine (ratio_read p h (k0_pay9 c s k al) (k0_pay7 c s k) _ _ d).trans ?_
  rw [pay9_eq k c s al q g p h, pay7_eq k c s al q g p h d]
  rfl

/-- Rounding and the lower clip, lane by lane. -/
theorem low_read (B : FVec Ideal S8x96x128 .f32) (d : Fin 128) :
    maximumf (broadcast S8x96x128 (Scalar.ofBits (F := Ideal) .f32 0xC0E00000#32)) (roundeven B) (ix3 p h d)
      = max negSeven (Ideal.liftRound Ideal.roundHalfEven (B (ix3 p h d))) := by
  pointwise
  rfl

/-- The upper clip, lane by lane. -/
theorem pay13_read (B : FVec Ideal S8x96x128 .f32) (d : Fin 128) :
    k0_pay13 B (k0_pay12 (F := Ideal)) (ix3 p h d) = min seven (B (ix3 p h d)) := by
  pointwise [k0_pay13, k0_pay12]
  rfl

/-- The int4 codes. -/
theorem codes_eq (d : Fin 128) :
    k0_pay13 (k0_pay11 c s k al) (k0_pay12 (F := Ideal)) (ix3 p h d) = (row k c s al q g p h).keyCode d := by
  refine (pay13_read p h _ d).trans ?_
  rw [show k0_pay11 c s k al (ix3 p h d) = _ from low_read p h (k0_pay10 c s k al) d, pay10_eq k c s al q g p h d]
  rfl

/-- `alpha`'s gradient from the row maximum, the codes and the ratios. -/
theorem pay16_read (A : FVec Ideal S8x96 .f32) (B L U : FVec Ideal S8x96x128 .f32) :
    k0_pay16 A B L U q g (ix2 p h)
      = (∑ d, q (ix4 0 p h d) * g (ix3 0 p h) *
          if FloatOps.absf (F := Ideal) (φ := .f32) (B (ix3 p h d)) ≤ seven then k0_pay13 L U (ix3 p h d) - B (ix3 p h d)
          else k0_pay13 L U (ix3 p h d)) * Ideal.div (A (ix2 p h)) seven := by
  pointwise [k0_pay16, k0_pay15, k0_pay14, k0_pay13]
  rfl

/-- `alpha`'s gradient at a token and head. -/
theorem pay16_eq : k0_pay16 (k0_pay8 c s k) (k0_pay10 c s k al) (k0_pay11 c s k al) (k0_pay12 (F := Ideal)) q g (ix2 p h)
    = (row k c s al q g p h).alphaGrad := by
  refine (pay16_read q g p h _ _ _ _).trans ?_
  simp only [pay8_eq k c s al q g p h, pay10_eq k c s al q g p h, codes_eq k c s al q g p h]
  rfl

/-- The gradient turned back, from the ratios. -/
theorem pay17_read (B : FVec Ideal S8x96x128 .f32) (d : Fin 128)
    (e : ∀ d, B (ix3 p h d) = (row k c s al q g p h).ratio d) :
    k0_pay17 (k0_pay5 c) (k0_pay6 s) B q g (ix3 p h d) = (row k c s al q g p h).keyGrad d := by
  pointwise [k0_pay17, k0_pay15, k0_pay14, k0_pay5, k0_pay6]
  simp only [e]
  unfold Row.keyGrad
  by_cases hd : d.val < 64
  · simp only [hd, dif_pos, if_pos, turn_lo d hd, sub_mul_neg]
    rfl
  · have e : 64 + (d.val - 64) = d.val := by omega
    simp only [hd, dif_neg, if_neg, not_false_eq_true, turn_hi d hd, e]
    rfl

/-- The gradient turned back. -/
theorem pay17_eq (d : Fin 128) :
    k0_pay17 (k0_pay5 c) (k0_pay6 s) (k0_pay10 c s k al) q g (ix3 p h d) = (row k c s al q g p h).keyGrad d :=
  pay17_read k c s al q g p h _ d (pay10_eq k c s al q g p h)

/-- Its greatest magnitude. -/
theorem pay18_eq :
    k0_pay18 (k0_pay5 c) (k0_pay6 s) (k0_pay10 c s k al) q g (ix2 p h) = (row k c s al q g p h).gradMax := by
  refine (absMax_read p h (k0_pay17 (k0_pay5 c) (k0_pay6 s) (k0_pay10 c s k al) q g) _ (.inl rfl) rfl).trans ?_
  simp only [pay17_eq k c s al q g p h]
  rfl

/-- The number whose exponent is taken. -/
theorem perMax_read (A : FVec Ideal S8x96 .f32) :
    mulf A (broadcast S8x96 (Scalar.ofBits (F := Ideal) .f32 0x37924925#32)) (ix2 p h) = A (ix2 p h) * perMax := by
  pointwise
  rfl

/-- The number whose exponent is taken. -/
theorem pay19_eq : k0_pay19 (k0_pay5 c) (k0_pay6 s) (k0_pay10 c s k al) q g (ix2 p h)
    = (row k c s al q g p h).gradMax * perMax := by
  refine (perMax_read p h (k0_pay18 (k0_pay5 c) (k0_pay6 s) (k0_pay10 c s k al) q g)).trans ?_
  rw [pay18_eq k c s al q g p h]

/-- One step of the search for the exponent field. -/
theorem step_read (Y : FVec Ideal S8x96 .f32) (f : IVec S8x96 32) (b : BitVec 32) :
    select (cmpf .oge Y (bitcastToFloat .f32 (shli (addi f (broadcast S8x96 b)) (broadcast S8x96 23#32))))
      (addi f (broadcast S8x96 b)) f (ix2 p h) = Field.step (Y (ix2 p h)) (f (ix2 p h)) b := by
  pointwise
  unfold Field.step Field.word
  congr

/-- The exponent field of the greatest magnitude. -/
theorem pay22_eq :
    k0_pay22 (k0_pay19 (k0_pay5 c) (k0_pay6 s) (k0_pay10 c s k al) q g)
      (k0_pay20 (k0_pay5 c) (k0_pay6 s) (k0_pay10 c s k al) q g)
      (k0_pay21 (k0_pay5 c) (k0_pay6 s) (k0_pay10 c s k al) q g) 23#32 (ix2 p h)
      = Field.search ((row k c s al q g p h).gradMax * perMax) := by
  rw [← pay19_eq k c s al q g p h]
  unfold k0_pay21 k0_pay20
  generalize k0_pay19 (k0_pay5 c) (k0_pay6 s) (k0_pay10 c s k al) q g = Y
  unfold Field.search
  iterate 8 refine (step_read p h Y _ _).trans (congrArg (fun f => Field.step _ f _) ?_)
  rfl

/-- The exponent of a row whose greatest magnitude is `a`, as the kernel's integer: 0 for a row of zeros. -/
theorem pay23_read (A : FVec Ideal S8x96 .f32) (f : IVec S8x96 32) (a : EReal) (eA : A (ix2 p h) = a)
    (eF : f (ix2 p h) = Field.search (a * perMax)) :
    k0_pay23 A f 126#32 (ix2 p h) = Field.exponentOf a := by
  pointwise [k0_pay23]
  rw [eA, eF]
  unfold Field.exponentOf
  congr

/-- The e5m2 scale. -/
theorem pay25_read (A : FVec Ideal S8x96 .f32) (f : IVec S8x96 32) (a : EReal)
    (e : k0_pay23 A f 126#32 (ix2 p h) = Field.exponentOf a) :
    k0_pay25 A f 126#32 (ix3 0 p h) = Field.word (IntOp.addi (Field.exponentOf a) 127#32) := by
  unfold k0_pay25
  generalize k0_pay23 A f 126#32 = E at e ⊢
  pointwise
  rw [e]
  rfl

/-- The e5m2 codes. -/
theorem pay24_read (D : FVec Ideal S8x96x128 .f32) (A : FVec Ideal S8x96 .f32) (f : IVec S8x96 32) (a : EReal)
    (e : k0_pay23 A f 126#32 (ix2 p h) = Field.exponentOf a) (d : Fin 128) :
    k0_pay24 D A f 126#32 (ix4 0 p h d)
      = min (Ideal.ofBits .f32 0x47600000#32) (max (Ideal.ofBits .f32 0xC7600000#32)
          (D (ix3 p h d) * Field.word (IntOp.addi (IntOp.subi 0#32 (Field.exponentOf a)) 127#32))) := by
  unfold k0_pay24
  generalize k0_pay23 A f 126#32 = E at e ⊢
  pointwise
  rw [e]
  rfl

/-- A leading axis of one put before a token-and-head table. -/
theorem pay1_read (A : FVec Ideal S8x96 .f32) : k0_pay1 A (ix3 0 p h) = A (ix2 p h) := by
  pointwise [k0_pay1]

/-- A leading axis of one put before a token-and-head table. -/
theorem pay2_read (A : FVec Ideal S8x96 .f32) : k0_pay2 A (ix3 0 p h) = A (ix2 p h) := by
  pointwise [k0_pay2]

/-- The int4 codes as int8. -/
theorem pay26_read (B : FVec Ideal S8x96x128 .f32) (d : Fin 128) :
    k0_pay26 B (ix4 0 p h d) = FloatOps.fptosi (F := Ideal) (φ := .f32) 8 (B (ix3 p h d)) := by
  pointwise [k0_pay26]

/-- The accumulator's first value: zeros. -/
theorem pay3_read : k0_pay3 (F := Ideal) (ix2 0 h) = 0 := by
  pointwise [k0_pay3]

/-- The accumulator after a block: what it held plus the block's sum over tokens. -/
theorem pay4_read (A : FVec Ideal S8x96 .f32) (X : Vec Ideal S1x96 .f32) :
    k0_pay4 A X (ix2 0 h) = X (ix2 0 h) + ∑ p : Fin 8, A (ix2 p h) := by
  pointwise [k0_pay4]

/-- The table of the greatest magnitudes of the turned-back gradient, as the body computes it from its blocks. -/
def gradMaxes : FVec Ideal S8x96 .f32 := k0_pay18 (k0_pay5 c) (k0_pay6 s) (k0_pay10 c s k al) q g

/-- The table of their exponent fields. -/
def fields : IVec S8x96 32 :=
  k0_pay22 (k0_pay19 (k0_pay5 c) (k0_pay6 s) (k0_pay10 c s k al) q g)
    (k0_pay20 (k0_pay5 c) (k0_pay6 s) (k0_pay10 c s k al) q g)
    (k0_pay21 (k0_pay5 c) (k0_pay6 s) (k0_pay10 c s k al) q g) 23#32

/-- The block of result 1. -/
def gradCodes : FVec Ideal S1x8x96x128 .fp8e5m2 :=
  k0_pay24 (k0_pay17 (k0_pay5 c) (k0_pay6 s) (k0_pay10 c s k al) q g) (gradMaxes k c s al q g) (fields k c s al q g) 126#32

/-- The block of result 2. -/
def gradScales : FVec Ideal S1x8x96 .f32 := k0_pay25 (gradMaxes k c s al q g) (fields k c s al q g) 126#32

/-- The table of `alpha`'s gradients. -/
def alphaGrads : FVec Ideal S8x96 .f32 :=
  k0_pay16 (k0_pay8 c s k) (k0_pay10 c s k al) (k0_pay11 c s k al) (k0_pay12 (F := Ideal)) q g

/-- The block of result 5. -/
def keyCodes : IVec S1x8x96x128 8 := k0_pay26 (k0_pay13 (k0_pay11 c s k al) (k0_pay12 (F := Ideal)))

/-- The exponents the kernel uses for a row. -/
theorem exponent_eq : k0_pay23 (gradMaxes k c s al q g) (fields k c s al q g) 126#32 (ix2 p h)
    = Field.exponentOf (row k c s al q g p h).gradMax :=
  pay23_read p h _ _ _ (pay18_eq k c s al q g p h) (pay22_eq k c s al q g p h)

/-- RESULT 1 OF A BLOCK is the row's e5m2 codes. -/
theorem gradCodes_eq (d : Fin 128) : gradCodes k c s al q g (ix4 0 p h d) = (row k c s al q g p h).gradCode d := by
  refine (pay24_read p h _ _ _ _ (exponent_eq k c s al q g p h) d).trans ?_
  rw [pay17_eq k c s al q g p h d, Field.inverse_eq (row k c s al q g p h).gradMax (Field.absMax_nonneg _)]
  rfl

/-- RESULT 2 OF A BLOCK is the row's e5m2 scale. -/
theorem gradScales_eq : gradScales k c s al q g (ix3 0 p h) = (row k c s al q g p h).gradScale := by
  refine (pay25_read p h _ _ _ (exponent_eq k c s al q g p h)).trans ?_
  rw [Field.scale_eq (row k c s al q g p h).gradMax (Field.absMax_nonneg _)]
  rfl

/-- RESULT 4 OF A BLOCK is the row's gradient of `alpha`. -/
theorem alphaGrads_eq : alphaGrads k c s al q g (ix2 p h) = (row k c s al q g p h).alphaGrad :=
  pay16_eq k c s al q g p h

/-- RESULT 5 OF A BLOCK is the row's int4 codes. -/
theorem keyCodes_eq (d : Fin 128) : keyCodes k c s al (ix4 0 p h d)
    = FloatOps.fptosi (F := Ideal) (φ := .f32) 8 ((row k c s al q g p h).keyCode d) :=
  (pay26_read p h _ d).trans (congrArg _ (codes_eq k c s al q g p h d))

end Cert.KernelIdeal.Block

end
-- ==== Proof.Point.lean ====
/- What one grid point leaves in each output's staging buffer: the block functions of `Block.lean` of the point's input
   blocks, whichever of the body's two cases runs; the accumulator adds to what the point before left. -/
module

public import proofs.«01_k».proof.Proof.Block
public import proofs.«01_k».proof.Proof.Gen.KernelIdeal.Frame

@[expose] public section

set_option maxRecDepth 16384

noncomputable section

namespace Cert.KernelIdeal.Point

open Cert.KernelIdeal Cert.KernelIdeal.Gen Idealize.ShloMosaic Idealize.ShloMosaic.TcCoe Idealize.SL.Sem Cert.Proof

variable (m : (ℓ : Loc nD τ sig) → Buf (Elt Ideal) ℓ) (c : Dev nD) (t : Fin cfg0.N)

/-- The whole blocks' offsets are zero. -/
theorem hz2 : (![0, 0] : Fin 2 → Nat) = fun _ => 0 := funext fun a => by fin_cases a <;> rfl

theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-- Result 1's block at the first point. -/
theorem out6_A (h0 : t.val % 128 = 0) : (outsAt0 m c t.val t.isLt).1
    = Block.gradCodes (iblk m c 0 t) (iblk m c 1 t) (iblk m c 2 t) (iblk m c 3 t) (iblk m c 4 t) (iblk m c 5 t) := by
  rw [outsAt0_A m c t h0]
  dsimp only
  unfold out0_A_6
  rw [View.read_writes_eq_canon _ _ _ (fun y => cover0_A_6 ..)]
  unfold kernelRun0_A
  dsimp only
  sl_unfold_words
  rw [View.canon_unit_zero hz4]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 1's block at a later point. -/
theorem out6_B (h0 : ¬t.val % 128 = 0) : (outsAt0 m c t.val t.isLt).1
    = Block.gradCodes (iblk m c 0 t) (iblk m c 1 t) (iblk m c 2 t) (iblk m c 3 t) (iblk m c 4 t) (iblk m c 5 t) := by
  rw [outsAt0_B m c t h0]
  dsimp only
  unfold out0_B_6
  rw [View.read_writes_eq_canon _ _ _ (fun y => cover0_B_6 ..)]
  unfold kernelRun0_B
  dsimp only
  sl_unfold_words
  rw [View.canon_unit_zero hz4]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 1's block at any point. -/
theorem out6 : (outsAt0 m c t.val t.isLt).1
    = Block.gradCodes (iblk m c 0 t) (iblk m c 1 t) (iblk m c 2 t) (iblk m c 3 t) (iblk m c 4 t) (iblk m c 5 t) := by
  by_cases h0 : t.val % 128 = 0
  · exact out6_A m c t h0
  · exact out6_B m c t h0

/-- Result 2's block at the first point. -/
theorem out7_A (h0 : t.val % 128 = 0) : (outsAt0 m c t.val t.isLt).2.1
    = Block.gradScales (iblk m c 0 t) (iblk m c 1 t) (iblk m c 2 t) (iblk m c 3 t) (iblk m c 4 t) (iblk m c 5 t) := by
  rw [outsAt0_A m c t h0]
  dsimp only
  unfold out0_A_7
  rw [View.read_writes_eq_canon _ _ _ (fun y => cover0_A_7 ..)]
  unfold kernelRun0_A
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 2's block at a later point. -/
theorem out7_B (h0 : ¬t.val % 128 = 0) : (outsAt0 m c t.val t.isLt).2.1
    = Block.gradScales (iblk m c 0 t) (iblk m c 1 t) (iblk m c 2 t) (iblk m c 3 t) (iblk m c 4 t) (iblk m c 5 t) := by
  rw [outsAt0_B m c t h0]
  dsimp only
  unfold out0_B_7
  rw [View.read_writes_eq_canon _ _ _ (fun y => cover0_B_7 ..)]
  unfold kernelRun0_B
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 2's block at any point. -/
theorem out7 : (outsAt0 m c t.val t.isLt).2.1
    = Block.gradScales (iblk m c 0 t) (iblk m c 1 t) (iblk m c 2 t) (iblk m c 3 t) (iblk m c 4 t) (iblk m c 5 t) := by
  by_cases h0 : t.val % 128 = 0
  · exact out7_A m c t h0
  · exact out7_B m c t h0

/-- Result 4's block at the first point. -/
theorem out9_A (h0 : t.val % 128 = 0) : (outsAt0 m c t.val t.isLt).2.2.2.1
    = k0_pay2 (Block.alphaGrads (iblk m c 0 t) (iblk m c 1 t) (iblk m c 2 t) (iblk m c 3 t) (iblk m c 4 t) (iblk m c 5 t)) := by
  rw [outsAt0_A m c t h0]
  dsimp only
  unfold out0_A_9
  rw [View.read_writes_eq_canon _ _ _ (fun y => cover0_A_9 ..)]
  unfold kernelRun0_A
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 4's block at a later point. -/
theorem out9_B (h0 : ¬t.val % 128 = 0) : (outsAt0 m c t.val t.isLt).2.2.2.1
    = k0_pay2 (Block.alphaGrads (iblk m c 0 t) (iblk m c 1 t) (iblk m c 2 t) (iblk m c 3 t) (iblk m c 4 t) (iblk m c 5 t)) := by
  rw [outsAt0_B m c t h0]
  dsimp only
  unfold out0_B_9
  rw [View.read_writes_eq_canon _ _ _ (fun y => cover0_B_9 ..)]
  unfold kernelRun0_B
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 4's block at any point. -/
theorem out9 : (outsAt0 m c t.val t.isLt).2.2.2.1
    = k0_pay2 (Block.alphaGrads (iblk m c 0 t) (iblk m c 1 t) (iblk m c 2 t) (iblk m c 3 t) (iblk m c 4 t) (iblk m c 5 t)) := by
  by_cases h0 : t.val % 128 = 0
  · exact out9_A m c t h0
  · exact out9_B m c t h0

/-- Result 5's block at the first point. -/
theorem out10_A (h0 : t.val % 128 = 0) : (outsAt0 m c t.val t.isLt).2.2.2.2.1
    = Block.keyCodes (iblk m c 0 t) (iblk m c 1 t) (iblk m c 2 t) (iblk m c 3 t) := by
  rw [outsAt0_A m c t h0]
  dsimp only
  unfold out0_A_10
  rw [View.read_writes_eq_canon _ _ _ (fun y => cover0_A_10 ..)]
  unfold kernelRun0_A
  dsimp only
  sl_unfold_words
  rw [View.canon_unit_zero hz4]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 5's block at a later point. -/
theorem out10_B (h0 : ¬t.val % 128 = 0) : (outsAt0 m c t.val t.isLt).2.2.2.2.1
    = Block.keyCodes (iblk m c 0 t) (iblk m c 1 t) (iblk m c 2 t) (iblk m c 3 t) := by
  rw [outsAt0_B m c t h0]
  dsimp only
  unfold out0_B_10
  rw [View.read_writes_eq_canon _ _ _ (fun y => cover0_B_10 ..)]
  unfold kernelRun0_B
  dsimp only
  sl_unfold_words
  rw [View.canon_unit_zero hz4]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- Result 5's block at any point. -/
theorem out10 : (outsAt0 m c t.val t.isLt).2.2.2.2.1
    = Block.keyCodes (iblk m c 0 t) (iblk m c 1 t) (iblk m c 2 t) (iblk m c 3 t) := by
  by_cases h0 : t.val % 128 = 0
  · exact out10_A m c t h0
  · exact out10_B m c t h0

/-- Result 6's block at the first point. -/
theorem out11_A (h0 : t.val % 128 = 0) : (outsAt0 m c t.val t.isLt).2.2.2.2.2
    = k0_pay1 (k0_pay9 (iblk m c 1 t) (iblk m c 2 t) (iblk m c 0 t) (iblk m c 3 t)) := by
  rw [outsAt0_A m c t h0]
  dsimp only
  unfold out0_A_11
  rw [View.read_writes_eq_canon _ _ _ (fun y => cover0_A_11 ..)]
  unfold kernelRun0_A
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]

/-- Result 6's block at a later point. -/
theorem out11_B (h0 : ¬t.val % 128 = 0) : (outsAt0 m c t.val t.isLt).2.2.2.2.2
    = k0_pay1 (k0_pay9 (iblk m c 1 t) (iblk m c 2 t) (iblk m c 0 t) (iblk m c 3 t)) := by
  rw [outsAt0_B m c t h0]
  dsimp only
  unfold out0_B_11
  rw [View.read_writes_eq_canon _ _ _ (fun y => cover0_B_11 ..)]
  unfold kernelRun0_B
  dsimp only
  sl_unfold_words
  rw [View.canon_unit_zero hz3]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]

/-- Result 6's block at any point. -/
theorem out11 : (outsAt0 m c t.val t.isLt).2.2.2.2.2
    = k0_pay1 (k0_pay9 (iblk m c 1 t) (iblk m c 2 t) (iblk m c 0 t) (iblk m c 3 t)) := by
  by_cases h0 : t.val % 128 = 0
  · exact out11_A m c t h0
  · exact out11_B m c t h0

/-- The accumulator at the first point: zeros plus the block's sum. -/
theorem out8_A (h0 : t.val % 128 = 0) : (outsAt0 m c t.val t.isLt).2.2.1
    = k0_pay4 (Block.alphaGrads (iblk m c 0 t) (iblk m c 1 t) (iblk m c 2 t) (iblk m c 3 t) (iblk m c 4 t) (iblk m c 5 t)) (k0_pay3 (F := Ideal)) := by
  rw [outsAt0_A m c t h0]
  dsimp only
  unfold out0_A_8
  rw [View.read_writes_eq_canon _ _ _ (fun y => cover0_A_8 ..)]
  unfold kernelRun0_A
  dsimp only
  sl_unfold_words
  rw [View.canon_cons_unit_zero (S := S1x96) hz2, View.readCov_unit_zero (S := S1x96) _ hz2]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

/-- The accumulator at a later point: what the point before left plus the block's sum. -/
theorem out8_B (h0 : ¬t.val % 128 = 0) : (outsAt0 m c t.val t.isLt).2.2.1
    = k0_pay4 (Block.alphaGrads (iblk m c 0 t) (iblk m c 1 t) (iblk m c 2 t) (iblk m c 3 t) (iblk m c 4 t) (iblk m c 5 t))
        (outsAt0 m c (t.val - 1) (Nat.lt_of_le_of_lt (Nat.sub_le _ _) t.isLt)).2.2.1 := by
  rw [outsAt0_B m c t h0]
  dsimp only
  unfold out0_B_8
  rw [View.read_writes_eq_canon _ _ _ (fun y => cover0_B_8 ..)]
  unfold kernelRun0_B
  dsimp only
  sl_unfold_words
  rw [View.canon_unit_zero hz2]
  simp only [View.readAt_eq_ld, Memref.IsWhole.read_unread, View.ld_unit_zero (S := S1x8x64) hz3,
    View.ld_unit_zero (S := S1x8x12288) hz3, View.ld_unit_zero (S := S1x96) hz2, View.ld_unit_zero (S := S1x8x96x128) hz4,
    View.ld_unit_zero (S := S1x8x96) hz3]
  rfl

end Cert.KernelIdeal.Point

end
-- ==== Proof.Place.lean ====
/- Where the pipeline's blocks lie: grid point `t` of 128 holds batch `t / 64` and the eight tokens from `8 (t % 64)` on,
   and every window's block is read and written there. -/
module

public import proofs.«01_k».proof.Proof.Point
public import proofs.«01_k».proof.Proof.Gen.KernelIdeal.Value
public import Idealize.ShloMosaic.Lib.Pipeline.Value

@[expose] public section

set_option maxRecDepth 16384

noncomputable section

namespace Cert.KernelIdeal.Place

open Cert.KernelIdeal Cert.KernelIdeal.Gen Idealize.ShloMosaic Idealize.ShloMosaic.TcCoe Idealize.SL.Sem Cert.Proof

/-- The grid has 128 points. -/
theorem points (t : Fin cfg0.N) : t.val < 128 := by
  have := t.isLt
  have h : cfg0.N = 128 := N_0
  omega

/-- The batch of a grid point. -/
def batch (t : Fin cfg0.N) : Fin 2 := ⟨t.val / 64, by have := points t; omega⟩

/-- The token at row `p` of a grid point's blocks. -/
def token (t : Fin cfg0.N) (p : Fin 8) : Fin 512 := ⟨t.val % 64 * 8 + p.val, by omega⟩

/-- The grid point that holds a token of a batch. -/
def pointOf (b : Fin 2) (n : Fin 512) : Fin cfg0.N :=
  ⟨b.val * 64 + n.val / 8, by have h : cfg0.N = 128 := N_0; omega⟩

/-- The row of the blocks that holds a token. -/
def rowOf (n : Fin 512) : Fin 8 := ⟨n.val % 8, by omega⟩

/-- A token's grid point is of its batch. -/
theorem batch_pointOf (b : Fin 2) (n : Fin 512) : batch (pointOf b n) = b :=
  Fin.ext (show (b.val * 64 + n.val / 8) / 64 = b.val by omega)

/-- A token's grid point holds it at its row. -/
theorem token_pointOf (b : Fin 2) (n : Fin 512) : token (pointOf b n) (rowOf n) = n :=
  Fin.ext (show (b.val * 64 + n.val / 8) % 64 * 8 + n.val % 8 = n.val by omega)

/-- Window 0's block indices. -/
theorem index0 : ∀ t : Fin cfg0.N, win0_0.index t 0 = t.val / 64 ∧ win0_0.index t 1 = t.val % 64 ∧ win0_0.index t 2 = 0 :=
  (by decide +kernel : ∀ t : Fin grid0.N, win0_0.index t 0 = t.val / 64 ∧ win0_0.index t 1 = t.val % 64 ∧ win0_0.index t 2 = 0)

/-- Where window 0's block lies in its array. -/
theorem emb0 (t : Fin cfg0.N) (p : Fin 8) (e : Fin 12288) :
    ((cfg0.win 0).blk t).view.emb (ix3 0 p e) = ix3 (batch t) (token t p) e := by
  funext a
  apply Fin.ext
  match a with
  | ⟨0, _⟩ => show win0_0.index t 0 * 1 + 1 * 0 = t.val / 64; rw [(index0 t).1]; omega
  | ⟨1, _⟩ => show win0_0.index t 1 * 8 + 1 * p.val = t.val % 64 * 8 + p.val; rw [(index0 t).2.1]; omega
  | ⟨2, _⟩ => show win0_0.index t 2 * 12288 + 1 * e.val = e.val; rw [(index0 t).2.2]; omega

/-- Window 1's block indices. -/
theorem index1 : ∀ t : Fin cfg0.N, win0_1.index t 0 = t.val / 64 ∧ win0_1.index t 1 = t.val % 64 ∧ win0_1.index t 2 = 0 :=
  (by decide +kernel : ∀ t : Fin grid0.N, win0_1.index t 0 = t.val / 64 ∧ win0_1.index t 1 = t.val % 64 ∧ win0_1.index t 2 = 0)

/-- Where window 1's block lies in its array. -/
theorem emb1 (t : Fin cfg0.N) (p : Fin 8) (e : Fin 64) :
    ((cfg0.win 1).blk t).view.emb (ix3 0 p e) = ix3 (batch t) (token t p) e := by
  funext a
  apply Fin.ext
  match a with
  | ⟨0, _⟩ => show win0_1.index t 0 * 1 + 1 * 0 = t.val / 64; rw [(index1 t).1]; omega
  | ⟨1, _⟩ => show win0_1.index t 1 * 8 + 1 * p.val = t.val % 64 * 8 + p.val; rw [(index1 t).2.1]; omega
  | ⟨2, _⟩ => show win0_1.index t 2 * 64 + 1 * e.val = e.val; rw [(index1 t).2.2]; omega

/-- Window 2's block indices. -/
theorem index2 : ∀ t : Fin cfg0.N, win0_2.index t 0 = t.val / 64 ∧ win0_2.index t 1 = t.val % 64 ∧ win0_2.index t 2 = 0 :=
  (by decide +kernel : ∀ t : Fin grid0.N, win0_2.index t 0 = t.val / 64 ∧ win0_2.index t 1 = t.val % 64 ∧ win0_2.index t 2 = 0)

/-- Where window 2's block lies in its array. -/
theorem emb2 (t : Fin cfg0.N) (p : Fin 8) (e : Fin 64) :
    ((cfg0.win 2).blk t).view.emb (ix3 0 p e) = ix3 (batch t) (token t p) e := by
  funext a
  apply Fin.ext
  match a with
  | ⟨0, _⟩ => show win0_2.index t 0 * 1 + 1 * 0 = t.val / 64; rw [(index2 t).1]; omega
  | ⟨1, _⟩ => show win0_2.index t 1 * 8 + 1 * p.val = t.val % 64 * 8 + p.val; rw [(index2 t).2.1]; omega
  | ⟨2, _⟩ => show win0_2.index t 2 * 64 + 1 * e.val = e.val; rw [(index2 t).2.2]; omega

/-- Window 4's block indices. -/
theorem index4 : ∀ t : Fin cfg0.N, win0_4.index t 0 = t.val / 64 ∧ win0_4.index t 1 = t.val % 64 ∧ win0_4.index t 2 = 0 ∧ win0_4.index t 3 = 0 :=
  (by decide +kernel : ∀ t : Fin grid0.N, win0_4.index t 0 = t.val / 64 ∧ win0_4.index t 1 = t.val % 64 ∧ win0_4.index t 2 = 0 ∧ win0_4.index t 3 = 0)

/-- Where window 4's block lies in its array. -/
theorem emb4 (t : Fin cfg0.N) (p : Fin 8) (h : Fin 96) (e : Fin 128) :
    ((cfg0.win 4).blk t).view.emb (ix4 0 p h e) = ix4 (batch t) (token t p) h e := by
  funext a
  apply Fin.ext
  match a with
  | ⟨0, _⟩ => show win0_4.index t 0 * 1 + 1 * 0 = t.val / 64; rw [(index4 t).1]; omega
  | ⟨1, _⟩ => show win0_4.index t 1 * 8 + 1 * p.val = t.val % 64 * 8 + p.val; rw [(index4 t).2.1]; omega
  | ⟨2, _⟩ => show win0_4.index t 2 * 96 + 1 * h.val = h.val; rw [(index4 t).2.2.1]; omega
  | ⟨3, _⟩ => show win0_4.index t 3 * 128 + 1 * e.val = e.val; rw [(index4 t).2.2.2]; omega

/-- Window 5's block indices. -/
theorem index5 : ∀ t : Fin cfg0.N, win0_5.index t 0 = t.val / 64 ∧ win0_5.index t 1 = t.val % 64 ∧ win0_5.index t 2 = 0 :=
  (by decide +kernel : ∀ t : Fin grid0.N, win0_5.index t 0 = t.val / 64 ∧ win0_5.index t 1 = t.val % 64 ∧ win0_5.index t 2 = 0)

/-- Where window 5's block lies in its array. -/
theorem emb5 (t : Fin cfg0.N) (p : Fin 8) (e : Fin 96) :
    ((cfg0.win 5).blk t).view.emb (ix3 0 p e) = ix3 (batch t) (token t p) e := by
  funext a
  apply Fin.ext
  match a with
  | ⟨0, _⟩ => show win0_5.index t 0 * 1 + 1 * 0 = t.val / 64; rw [(index5 t).1]; omega
  | ⟨1, _⟩ => show win0_5.index t 1 * 8 + 1 * p.val = t.val % 64 * 8 + p.val; rw [(index5 t).2.1]; omega
  | ⟨2, _⟩ => show win0_5.index t 2 * 96 + 1 * e.val = e.val; rw [(index5 t).2.2]; omega

/-- Window 6's block indices. -/
theorem index6 : ∀ t : Fin cfg0.N, win0_6.index t 0 = t.val / 64 ∧ win0_6.index t 1 = t.val % 64 ∧ win0_6.index t 2 = 0 ∧ win0_6.index t 3 = 0 :=
  (by decide +kernel : ∀ t : Fin grid0.N, win0_6.index t 0 = t.val / 64 ∧ win0_6.index t 1 = t.val % 64 ∧ win0_6.index t 2 = 0 ∧ win0_6.index t 3 = 0)

/-- Where window 6's block lies in its array. -/
theorem emb6 (t : Fin cfg0.N) (p : Fin 8) (h : Fin 96) (e : Fin 128) :
    ((cfg0.win 6).blk t).view.emb (ix4 0 p h e) = ix4 (batch t) (token t p) h e := by
  funext a
  apply Fin.ext
  match a with
  | ⟨0, _⟩ => show win0_6.index t 0 * 1 + 1 * 0 = t.val / 64; rw [(index6 t).1]; omega
  | ⟨1, _⟩ => show win0_6.index t 1 * 8 + 1 * p.val = t.val % 64 * 8 + p.val; rw [(index6 t).2.1]; omega
  | ⟨2, _⟩ => show win0_6.index t 2 * 96 + 1 * h.val = h.val; rw [(index6 t).2.2.1]; omega
  | ⟨3, _⟩ => show win0_6.index t 3 * 128 + 1 * e.val = e.val; rw [(index6 t).2.2.2]; omega

/-- Window 7's block indices. -/
theorem index7 : ∀ t : Fin cfg0.N, win0_7.index t 0 = t.val / 64 ∧ win0_7.index t 1 = t.val % 64 ∧ win0_7.index t 2 = 0 :=
  (by decide +kernel : ∀ t : Fin grid0.N, win0_7.index t 0 = t.val / 64 ∧ win0_7.index t 1 = t.val % 64 ∧ win0_7.index t 2 = 0)

/-- Where window 7's block lies in its array. -/
theorem emb7 (t : Fin cfg0.N) (p : Fin 8) (e : Fin 96) :
    ((cfg0.win 7).blk t).view.emb (ix3 0 p e) = ix3 (batch t) (token t p) e := by
  funext a
  apply Fin.ext
  match a with
  | ⟨0, _⟩ => show win0_7.index t 0 * 1 + 1 * 0 = t.val / 64; rw [(index7 t).1]; omega
  | ⟨1, _⟩ => show win0_7.index t 1 * 8 + 1 * p.val = t.val % 64 * 8 + p.val; rw [(index7 t).2.1]; omega
  | ⟨2, _⟩ => show win0_7.index t 2 * 96 + 1 * e.val = e.val; rw [(index7 t).2.2]; omega

/-- Window 9's block indices. -/
theorem index9 : ∀ t : Fin cfg0.N, win0_9.index t 0 = t.val / 64 ∧ win0_9.index t 1 = t.val % 64 ∧ win0_9.index t 2 = 0 :=
  (by decide +kernel : ∀ t : Fin grid0.N, win0_9.index t 0 = t.val / 64 ∧ win0_9.index t 1 = t.val % 64 ∧ win0_9.index t 2 = 0)

/-- Where window 9's block lies in its array. -/
theorem emb9 (t : Fin cfg0.N) (p : Fin 8) (e : Fin 96) :
    ((cfg0.win 9).blk t).view.emb (ix3 0 p e) = ix3 (batch t) (token t p) e := by
  funext a
  apply Fin.ext
  match a with
  | ⟨0, _⟩ => show win0_9.index t 0 * 1 + 1 * 0 = t.val / 64; rw [(index9 t).1]; omega
  | ⟨1, _⟩ => show win0_9.index t 1 * 8 + 1 * p.val = t.val % 64 * 8 + p.val; rw [(index9 t).2.1]; omega
  | ⟨2, _⟩ => show win0_9.index t 2 * 96 + 1 * e.val = e.val; rw [(index9 t).2.2]; omega

/-- Window 10's block indices. -/
theorem index10 : ∀ t : Fin cfg0.N, win0_10.index t 0 = t.val / 64 ∧ win0_10.index t 1 = t.val % 64 ∧ win0_10.index t 2 = 0 ∧ win0_10.index t 3 = 0 :=
  (by decide +kernel : ∀ t : Fin grid0.N, win0_10.index t 0 = t.val / 64 ∧ win0_10.index t 1 = t.val % 64 ∧ win0_10.index t 2 = 0 ∧ win0_10.index t 3 = 0)

/-- Where window 10's block lies in its array. -/
theorem emb10 (t : Fin cfg0.N) (p : Fin 8) (h : Fin 96) (e : Fin 128) :
    ((cfg0.win 10).blk t).view.emb (ix4 0 p h e) = ix4 (batch t) (token t p) h e := by
  funext a
  apply Fin.ext
  match a with
  | ⟨0, _⟩ => show win0_10.index t 0 * 1 + 1 * 0 = t.val / 64; rw [(index10 t).1]; omega
  | ⟨1, _⟩ => show win0_10.index t 1 * 8 + 1 * p.val = t.val % 64 * 8 + p.val; rw [(index10 t).2.1]; omega
  | ⟨2, _⟩ => show win0_10.index t 2 * 96 + 1 * h.val = h.val; rw [(index10 t).2.2.1]; omega
  | ⟨3, _⟩ => show win0_10.index t 3 * 128 + 1 * e.val = e.val; rw [(index10 t).2.2.2]; omega

/-- Window 11's block indices. -/
theorem index11 : ∀ t : Fin cfg0.N, win0_11.index t 0 = t.val / 64 ∧ win0_11.index t 1 = t.val % 64 ∧ win0_11.index t 2 = 0 :=
  (by decide +kernel : ∀ t : Fin grid0.N, win0_11.index t 0 = t.val / 64 ∧ win0_11.index t 1 = t.val % 64 ∧ win0_11.index t 2 = 0)

/-- Where window 11's block lies in its array. -/
theorem emb11 (t : Fin cfg0.N) (p : Fin 8) (e : Fin 96) :
    ((cfg0.win 11).blk t).view.emb (ix3 0 p e) = ix3 (batch t) (token t p) e := by
  funext a
  apply Fin.ext
  match a with
  | ⟨0, _⟩ => show win0_11.index t 0 * 1 + 1 * 0 = t.val / 64; rw [(index11 t).1]; omega
  | ⟨1, _⟩ => show win0_11.index t 1 * 8 + 1 * p.val = t.val % 64 * 8 + p.val; rw [(index11 t).2.1]; omega
  | ⟨2, _⟩ => show win0_11.index t 2 * 96 + 1 * e.val = e.val; rw [(index11 t).2.2]; omega

/-- Window 3's block indices. -/
theorem index3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array. -/
theorem emb3 (t : Fin cfg0.N) (h : Fin 96) : ((cfg0.win 3).blk t).view.emb (ix2 0 h) = ix2 0 h := by
  funext a
  apply Fin.ext
  match a with
  | ⟨0, _⟩ => show win0_3.index t 0 * 1 + 1 * 0 = 0; rw [(index3 t).1]
  | ⟨1, _⟩ => show win0_3.index t 1 * 96 + 1 * h.val = h.val; rw [(index3 t).2]; omega

/-- Window 8's block indices. -/
theorem index8 : ∀ t : Fin cfg0.N, win0_8.index t 0 = 0 ∧ win0_8.index t 1 = 0 :=
  (by decide +kernel : ∀ t : Fin grid0.N, win0_8.index t 0 = 0 ∧ win0_8.index t 1 = 0)

/-- Window 8's block is its whole array. -/
theorem emb8 (t : Fin cfg0.N) (h : Fin 96) : ((cfg0.win 8).blk t).view.emb (ix2 0 h) = ix2 0 h := by
  funext a
  apply Fin.ext
  match a with
  | ⟨0, _⟩ => show win0_8.index t 0 * 1 + 1 * 0 = 0; rw [(index8 t).1]
  | ⟨1, _⟩ => show win0_8.index t 1 * 96 + 1 * h.val = h.val; rw [(index8 t).2]; omega

variable (m : (ℓ : Loc nD τ sig) → Buf (Elt Ideal) ℓ) (c : Dev nD)

/-- Window 0's block holds its tokens of argument 0. -/
theorem iblk0 (t : Fin cfg0.N) (p : Fin 8) (e : Fin 12288) :
    iblk m c 0 t (ix3 0 p e) = m ((c : Thread nD τ).loc main_arg0) (ix3 (batch t) (token t p) e) := by
  unfold iblk
  rw [View.read_apply, emb0 t p e]
  exact congrFun (V_main_arg0 m c) _

/-- Window 1's block holds its tokens of argument 1. -/
theorem iblk1 (t : Fin cfg0.N) (p : Fin 8) (e : Fin 64) :
    iblk m c 1 t (ix3 0 p e) = m ((c : Thread nD τ).loc main_arg1) (ix3 (batch t) (token t p) e) := by
  unfold iblk
  rw [View.read_apply, emb1 t p e]
  exact congrFun (V_main_arg1 m c) _

/-- Window 2's block holds its tokens of argument 2. -/
theorem iblk2 (t : Fin cfg0.N) (p : Fin 8) (e : Fin 64) :
    iblk m c 2 t (ix3 0 p e) = m ((c : Thread nD τ).loc main_arg2) (ix3 (batch t) (token t p) e) := by
  unfold iblk
  rw [View.read_apply, emb2 t p e]
  exact congrFun (V_main_arg2 m c) _

/-- Window 4's block holds its tokens of argument 4. -/
theorem iblk4 (t : Fin cfg0.N) (p : Fin 8) (h : Fin 96) (e : Fin 128) :
    iblk m c 4 t (ix4 0 p h e) = m ((c : Thread nD τ).loc main_arg4) (ix4 (batch t) (token t p) h e) := by
  unfold iblk
  rw [View.read_apply, emb4 t p h e]
  exact congrFun (V_main_arg4 m c) _

/-- Window 5's block holds its tokens of argument 5. -/
theorem iblk5 (t : Fin cfg0.N) (p : Fin 8) (e : Fin 96) :
    iblk m c 5 t (ix3 0 p e) = m ((c : Thread nD τ).loc main_arg5) (ix3 (batch t) (token t p) e) := by
  unfold iblk
  rw [View.read_apply, emb5 t p e]
  exact congrFun (V_main_arg5 m c) _

/-- The row the host makes of `alpha`. -/
theorem V_main_v0 : V m c main_v0 = broadcastInDim S1x96 ![1] bcast_S96_S1x96_1 (m ((c : Thread nD τ).loc main_arg3)) := by
  unfold V
  after_results

/-- Window 3's block holds `alpha`. -/
theorem iblk3 (t : Fin cfg0.N) (h : Fin 96) :
    iblk m c 3 t (ix2 0 h) = m ((c : Thread nD τ).loc main_arg3) (ix1 h) := by
  unfold iblk
  rw [View.read_apply, emb3 t h]
  refine (congrFun (V_main_v0 m c) _).trans ?_
  pointwise

end Cert.KernelIdeal.Place

end
-- ==== Proof.Reference.lean ====
/- What the reference's six results hold, element by element: each is the row function of `Row.lean` at the row its
   token and head name. -/
module

public import proofs.«01_k».proof.Proof.Row
public import proofs.«01_k».proof.Proof.Gen.ReferenceIdeal.Value

@[expose] public section

set_option maxRecDepth 16384

noncomputable section

namespace Cert.ReferenceIdeal.Whole

open Cert.ReferenceIdeal Cert.ReferenceIdeal.Gen Idealize.ShloMosaic Cert.Proof

variable (a0 : Vec Ideal S2x512x12288 .bf16) (a1 a2 : Vec Ideal S2x512x64 .f32) (a3 : Vec Ideal S96 .f32)
variable (a4 : Vec Ideal S2x512x96x128 .fp8e5m2) (a5 : Vec Ideal S2x512x96 .f32)
variable (b : Fin 2) (p : Fin 512) (h : Fin 96)

/-- The bit of a proposition is one where it holds. -/
theorem ofBool_one (P : Prop) [Decidable P] : (BitVec.ofBool (decide P) = 1#1) = P := by
  by_cases h : P <;> simp [h]

/-- The row of the argument arrays at batch `b`, token `p`, head `h`. -/
def row : Row where
  key d := a0 (ix3 b p ⟨h.val * 128 + d.val, by omega⟩)
  cosine d := a1 (ix3 b p d)
  sine d := a2 (ix3 b p d)
  alpha := a3 (ix1 h)
  codes d := a4 (ix4 b p h d)
  scale := a5 (ix3 b p h)

/-- The rotated key. -/
theorem pay5_eq (d : Fin 128) : k0_pay5 a1 a2 a0 (ix4 b p h d) = (row a0 a1 a2 a3 a4 a5 b p h).rotated d := by
  pointwise [k0_pay5, k0_pay4, k0_pay3]
  rfl

/-- Its greatest magnitude. -/
theorem pay6_eq : k0_pay6 a1 a2 a0 (ix3 b p h) = (row a0 a1 a2 a3 a4 a5 b p h).keyMax := by
  unfold k0_pay6
  have e := pay5_eq a0 a1 a2 a3 a4 a5 b p h
  generalize k0_pay5 a1 a2 a0 = A at e ⊢
  pointwise
  simp only [e]
  rfl

/-- The int4 scale from its row maximum. -/
theorem scale_read (A : FVec Ideal S2x512x96 .f32) (h1 h2) :
    select (cmpf .oeq A (broadcast S2x512x96 (Scalar.ofBits (F := Ideal) .f32 0x00000000#32)))
      (broadcast S2x512x96 (Scalar.ofBits (F := Ideal) .f32 0x3F800000#32))
      (divf (mulf (broadcastTo S2x512x96 (shapeCast S1x1x96 a3 h1) h2) A)
        (broadcast S2x512x96 (Scalar.ofBits (F := Ideal) .f32 0x40E00000#32))) (ix3 b p h)
      = if A (ix3 b p h) = 0 then 1 else Ideal.div (a3 (ix1 h) * A (ix3 b p h)) seven := by
  pointwise
  rfl

/-- The int4 scale. -/
theorem pay7_eq : k0_pay7 a1 a2 a0 a3 (ix3 b p h) = (row a0 a1 a2 a3 a4 a5 b p h).keyScale := by
  refine (scale_read a3 b p h (k0_pay6 a1 a2 a0) _ _).trans ?_
  rw [pay6_eq a0 a1 a2 a3 a4 a5 b p h]
  rfl

/-- A lane over its row's scale. -/
theorem ratio_read (A : FVec Ideal S2x512x96 .f32) (B : FVec Ideal S2x512x96x128 .f32) (h1 h2) (d : Fin 128) :
    divf B (broadcastTo S2x512x96x128 (shapeCast S2x512x96x1 A h1) h2) (ix4 b p h d)
      = Ideal.div (B (ix4 b p h d)) (A (ix3 b p h)) := by
  pointwise

/-- The rotated key over its scale. -/
theorem pay9_eq (d : Fin 128) : k0_pay9 a1 a2 a0 a3 (ix4 b p h d) = (row a0 a1 a2 a3 a4 a5 b p h).ratio d := by
  refine (ratio_read b p h (k0_pay7 a1 a2 a0 a3) (k0_pay5 a1 a2 a0) _ _ d).trans ?_
  rw [pay7_eq a0 a1 a2 a3 a4 a5 b p h, pay5_eq a0 a1 a2 a3 a4 a5 b p h d]
  rfl

/-- Rounding and clipping, lane by lane. -/
theorem code_read (B : FVec Ideal S2x512x96x128 .f32) (d : Fin 128) :
    minimumf (broadcast S2x512x96x128 (Scalar.ofBits (F := Ideal) .f32 0x40E00000#32))
      (maximumf (broadcast S2x512x96x128 (Scalar.ofBits (F := Ideal) .f32 0xC0E00000#32)) (roundeven B)) (ix4 b p h d)
      = code (B (ix4 b p h d)) := by
  pointwise
  rfl

/-- The int4 codes. -/
theorem pay8_eq (d : Fin 128) : k0_pay8 a1 a2 a0 a3 (ix4 b p h d) = (row a0 a1 a2 a3 a4 a5 b p h).keyCode d :=
  (code_read b p h (k0_pay9 a1 a2 a0 a3) d).trans (congrArg code (pay9_eq a0 a1 a2 a3 a4 a5 b p h d))

/-- `alpha`'s gradient from the row maximum, the codes and the ratios. -/
theorem pay12_read (A : FVec Ideal S2x512x96 .f32) (Q B : FVec Ideal S2x512x96x128 .f32) :
    k0_pay12 A Q B a4 a5 (ix3 b p h)
      = (∑ d, a4 (ix4 b p h d) * a5 (ix3 b p h) *
          if FloatOps.absf (F := Ideal) (φ := .f32) (B (ix4 b p h d)) ≤ seven then Q (ix4 b p h d) - B (ix4 b p h d)
          else Q (ix4 b p h d)) * Ideal.div (A (ix3 b p h)) seven := by
  pointwise [k0_pay12, k0_pay11, k0_pay10]
  rfl

/-- The gradient turned back, from the ratios. -/
theorem pay13_read (B : FVec Ideal S2x512x96x128 .f32) (d : Fin 128)
    (e : ∀ d, B (ix4 b p h d) = (row a0 a1 a2 a3 a4 a5 b p h).ratio d) :
    k0_pay13 (k0_pay3 a1) (k0_pay4 a2) B a4 a5 (ix4 b p h d) = (row a0 a1 a2 a3 a4 a5 b p h).keyGrad d := by
  pointwise [k0_pay13, k0_pay11, k0_pay10, k0_pay3, k0_pay4]
  simp only [e]
  rfl

/-- The greatest magnitude of a row. -/
theorem absMax_read (B : FVec Ideal S2x512x96x128 .f32) (h1 h2 h3) :
    multiReduction .maximumf [3] S2x512x96 (absf B) 0xFF800000#32 h1 h2 h3 (ix3 b p h)
      = absMax fun d => B (ix4 b p h d) := by
  pointwise
  rfl

/-- The number whose exponent is taken. -/
theorem perMax_read (A : FVec Ideal S2x512x96 .f32) :
    mulf A (broadcast S2x512x96 (Scalar.ofBits (F := Ideal) .f32 0x37924925#32)) (ix3 b p h)
      = A (ix3 b p h) * perMax := by
  pointwise
  rfl

/-- Whether a row is one of zeros. -/
theorem isZero_read (A : FVec Ideal S2x512x96 .f32) :
    cmpf .oeq A (broadcast S2x512x96 (Scalar.ofBits (F := Ideal) .f32 0x00000000#32)) (ix3 b p h)
      = BitVec.ofBool (decide (A (ix3 b p h) = 0)) := by
  pointwise

/-- The exponent candidates. -/
theorem pay17_read (j : Fin 254) : k0_pay17 (F := Ideal) (ix4 b p h j) = candidate j := by
  pointwise [k0_pay17]
  rfl

/-- Which candidates' powers of two are at most the number. -/
theorem atMost_read (A : FVec Ideal S2x512x96 .f32) (C : FVec Ideal S2x512x96x254 .f32) (h1 h2) (j : Fin 254) :
    cmpf .ole (exp2 C) (broadcastTo S2x512x96x254 (shapeCast S2x512x96x1 A h1) h2) (ix4 b p h j)
      = BitVec.ofBool (decide (FloatOps.exp2 (F := Ideal) (φ := .f32) (C (ix4 b p h j)) ≤ A (ix3 b p h))) := by
  pointwise

/-- The exponent. -/
theorem pay19_read (a : EReal) (Z : IVec S2x512x96 1) (C : FVec Ideal S2x512x96x254 .f32) (L : IVec S2x512x96x254 1)
    (eZ : Z (ix3 b p h) = BitVec.ofBool (decide (a = 0))) (eC : ∀ j, C (ix4 b p h j) = candidate j)
    (eL : ∀ j, L (ix4 b p h j)
      = BitVec.ofBool (decide (FloatOps.exp2 (F := Ideal) (φ := .f32) (candidate j) ≤ a * perMax))) :
    k0_pay19 Z C L (Scalar.ofBits .f32 0x3F800000#32) (ix3 b p h) = scaleExponent a := by
  pointwise [k0_pay19]
  simp only [eZ, eC, eL]
  simp [Scalar.select, scaleExponent, exponent, ofBool_one]

/-- The e5m2 scale. -/
theorem pay20_read (a : EReal) (Y : FVec Ideal S2x512x96 .f32) (Z : IVec S2x512x96 1) (C : FVec Ideal S2x512x96x254 .f32)
    (L : IVec S2x512x96x254 1) (eY : Y (ix3 b p h) = a * perMax)
    (eE : k0_pay19 Z C L (Scalar.ofBits .f32 0x3F800000#32) (ix3 b p h) = scaleExponent a) :
    k0_pay20 Y Z C L (Scalar.ofBits .f32 0x3F800000#32) (ix3 b p h) = scaleOf a := by
  unfold k0_pay20
  generalize k0_pay19 Z C L (Scalar.ofBits .f32 0x3F800000#32) = E at eE ⊢
  pointwise
  rw [eY, eE]
  rfl

/-- The e5m2 codes. -/
theorem pay21_read (a : EReal) (D : FVec Ideal S2x512x96x128 .f32) (Y : FVec Ideal S2x512x96 .f32) (Z : IVec S2x512x96 1)
    (C : FVec Ideal S2x512x96x254 .f32) (L : IVec S2x512x96x254 1) (eY : Y (ix3 b p h) = a * perMax)
    (eE : k0_pay19 Z C L (Scalar.ofBits .f32 0x3F800000#32) (ix3 b p h) = scaleExponent a) (d : Fin 128) :
    k0_pay21 D Y Z C L (Scalar.ofBits .f32 0x3F800000#32) (ix4 b p h d)
      = min (Ideal.ofBits .f32 0x47600000#32) (max (Ideal.ofBits .f32 0xC7600000#32) (D (ix4 b p h d) * inverseOf a)) := by
  unfold k0_pay21
  generalize k0_pay19 Z C L (Scalar.ofBits .f32 0x3F800000#32) = E at eE ⊢
  pointwise
  rw [eY, eE]
  rfl

end Cert.ReferenceIdeal.Whole

end
-- ==== Proof.Arrays.lean ====
/- The kernel's six result arrays after its run, element by element, as the row functions of `Row.lean` at the rows of
   the argument arrays: five by the one block that holds the element, the third by the sum the blocks accumulate. -/
module

public import proofs.«01_k».proof.Proof.Place
public import proofs.«01_k».proof.Proof.Reference

@[expose] public section

set_option maxRecDepth 16384

noncomputable section

namespace Cert.KernelIdeal.Arrays

open Cert.KernelIdeal Cert.KernelIdeal.Gen Idealize.ShloMosaic Idealize.ShloMosaic.TcCoe Idealize.SL.Sem Cert.Proof
open Cert.KernelIdeal.Place
open Idealize.ShloMosaic.Pipeline (Dat)

variable (m : (ℓ : Loc nD τ sig) → Buf (Elt Ideal) ℓ) (c : Dev nD)

/-- The row of the kernel's arguments at batch `b`, token `n`, head `h`. -/
def argRow (b : Fin 2) (n : Fin 512) (h : Fin 96) : Row :=
  Cert.ReferenceIdeal.Whole.row (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) b n h

/-- A row of a point's blocks is the arguments' row at the point's batch and the row's token. -/
theorem row_eq (t : Fin cfg0.N) (p : Fin 8) (h : Fin 96) :
    Block.row (iblk m c 0 t) (iblk m c 1 t) (iblk m c 2 t) (iblk m c 3 t) (iblk m c 4 t) (iblk m c 5 t) p h
      = argRow m c (batch t) (token t p) h := by
  unfold Block.row argRow Cert.ReferenceIdeal.Whole.row
  congr 1
  · funext d; exact iblk0 m c t p _
  · funext d; exact iblk1 m c t p d
  · funext d; exact iblk2 m c t p d
  · exact iblk3 m c t h
  · funext d; exact iblk4 m c t p h d
  · exact iblk5 m c t p h

/-- The row of a token's blocks that holds it is the arguments' row at that token. -/
theorem row_pointOf (b : Fin 2) (n : Fin 512) (h : Fin 96) :
    argRow m c (batch (pointOf b n)) (token (pointOf b n) (rowOf n)) h = argRow m c b n h := by
  rw [batch_pointOf, token_pointOf]

/-- RESULT 1 ends holding the rows' e5m2 codes. -/
theorem result6 (b : Fin 2) (n : Fin 512) (h : Fin 96) (d : Fin 128) :
    (dats m 0 c).arrAt 6 cfg0.N (ix4 b n h d) = (argRow m c b n h).gradCode d := by
  have e := congrFun (Value.blocks6 m c (pointOf b n) (flush0_6 _)) (ix4 0 (rowOf n) h d)
  rw [View.read_apply, emb6, batch_pointOf, token_pointOf, Value.flushed6] at e
  refine e.trans ?_
  show (outsAt0 m c (pointOf b n).val (pointOf b n).isLt).1 (ix4 0 (rowOf n) h d) = _
  rw [Point.out6, Block.gradCodes_eq, row_eq, row_pointOf]

/-- RESULT 2 ends holding the rows' e5m2 scales. -/
theorem result7 (b : Fin 2) (n : Fin 512) (h : Fin 96) :
    (dats m 0 c).arrAt 7 cfg0.N (ix3 b n h) = (argRow m c b n h).gradScale := by
  have e := congrFun (Value.blocks7 m c (pointOf b n) (flush0_7 _)) (ix3 0 (rowOf n) h)
  rw [View.read_apply, emb7, batch_pointOf, token_pointOf, Value.flushed7] at e
  refine e.trans ?_
  show (outsAt0 m c (pointOf b n).val (pointOf b n).isLt).2.1 (ix3 0 (rowOf n) h) = _
  rw [Point.out7, Block.gradScales_eq, row_eq, row_pointOf]

/-- RESULT 4 ends holding the rows' gradients of `alpha`. -/
theorem result9 (b : Fin 2) (n : Fin 512) (h : Fin 96) :
    (dats m 0 c).arrAt 9 cfg0.N (ix3 b n h) = (argRow m c b n h).alphaGrad := by
  have e := congrFun (Value.blocks9 m c (pointOf b n) (flush0_9 _)) (ix3 0 (rowOf n) h)
  rw [View.read_apply, emb9, batch_pointOf, token_pointOf, Value.flushed9] at e
  refine e.trans ?_
  show (outsAt0 m c (pointOf b n).val (pointOf b n).isLt).2.2.2.1 (ix3 0 (rowOf n) h) = _
  rw [Point.out9, Block.pay2_read, Block.alphaGrads_eq, row_eq, row_pointOf]

/-- RESULT 5 ends holding the rows' int4 codes as int8. -/
theorem result10 (b : Fin 2) (n : Fin 512) (h : Fin 96) (d : Fin 128) :
    (dats m 0 c).arrAt 10 cfg0.N (ix4 b n h d)
      = FloatOps.fptosi (F := Ideal) (φ := .f32) 8 ((argRow m c b n h).keyCode d) := by
  have e := congrFun (Value.blocks10 m c (pointOf b n) (flush0_10 _)) (ix4 0 (rowOf n) h d)
  rw [View.read_apply, emb10, batch_pointOf, token_pointOf, Value.flushed10] at e
  refine e.trans ?_
  show (outsAt0 m c (pointOf b n).val (pointOf b n).isLt).2.2.2.2.1 (ix4 0 (rowOf n) h d) = _
  rw [Point.out10, Block.keyCodes_eq _ _ _ _ (iblk m c 4 (pointOf b n)) (iblk m c 5 (pointOf b n)), row_eq, row_pointOf]

/-- RESULT 6 ends holding the rows' int4 scales. -/
theorem result11 (b : Fin 2) (n : Fin 512) (h : Fin 96) :
    (dats m 0 c).arrAt 11 cfg0.N (ix3 b n h) = (argRow m c b n h).keyScale := by
  have e := congrFun (Value.blocks11 m c (pointOf b n) (flush0_11 _)) (ix3 0 (rowOf n) h)
  rw [View.read_apply, emb11, batch_pointOf, token_pointOf, Value.flushed11] at e
  refine e.trans ?_
  show (outsAt0 m c (pointOf b n).val (pointOf b n).isLt).2.2.2.2.2 (ix3 0 (rowOf n) h) = _
  rw [Point.out11, Block.pay1_read,
    Block.pay9_eq _ _ _ _ (iblk m c 4 (pointOf b n)) (iblk m c 5 (pointOf b n)), row_eq, row_pointOf]

/-- What point number `t` adds to the accumulator at head `h`. -/
def added (h : Fin 96) (t : ℕ) : EReal :=
  if ht : t < cfg0.N then ∑ p : Fin 8, (argRow m c (batch ⟨t, ht⟩) (token ⟨t, ht⟩ p) h).alphaGrad else 0

/-- What a point adds is the sum of its block's table over tokens. -/
theorem added_eq (t : Fin cfg0.N) (h : Fin 96) :
    ∑ p : Fin 8, Block.alphaGrads (iblk m c 0 t) (iblk m c 1 t) (iblk m c 2 t) (iblk m c 3 t) (iblk m c 4 t)
      (iblk m c 5 t) (ix2 p h) = added m c h t.val := by
  unfold added
  rw [dif_pos t.isLt]
  exact Finset.sum_congr rfl fun p _ => by rw [Block.alphaGrads_eq, row_eq]

/-- The accumulator after point `n` holds what the points up to `n` added. -/
theorem acc_eq (h : Fin 96) : ∀ (n : ℕ) (hn : n < cfg0.N),
    (outsAt0 m c n hn).2.2.1 (ix2 0 h) = ∑ t ∈ Finset.range (n + 1), added m c h t
  | 0, hn => by
    have e := Point.out8_A m c ⟨0, hn⟩ rfl
    refine (congrFun e (ix2 0 h)).trans ?_
    rw [Block.pay4_read, Block.pay3_read, added_eq, zero_add, Finset.sum_range_one]
  | n + 1, hn => by
    have hN : cfg0.N = 128 := N_0
    have hB : ¬(⟨n + 1, hn⟩ : Fin cfg0.N).val % 128 = 0 := by dsimp only; omega
    have e := Point.out8_B m c ⟨n + 1, hn⟩ hB
    refine (congrFun e (ix2 0 h)).trans ?_
    rw [Block.pay4_read, added_eq, Finset.sum_range_succ]
    congr 1
    exact acc_eq h n (Nat.lt_of_succ_lt hn)

/-- A sum over points and block rows is the sum over batches and tokens. -/
theorem sum_points (f : Fin 2 → Fin 512 → EReal) :
    ∑ t : Fin cfg0.N, ∑ p : Fin 8, f (batch t) (token t p) = ∑ b : Fin 2, ∑ n : Fin 512, f b n := by
  rw [← Finset.sum_product', ← Finset.sum_product']
  refine Finset.sum_bij' (fun x _ => (batch x.1, token x.1 x.2)) (fun y _ => (pointOf y.1 y.2, rowOf y.2)) ?_ ?_ ?_ ?_ ?_
  · intro x _; exact Finset.mem_product.mpr ⟨Finset.mem_univ _, Finset.mem_univ _⟩
  · intro y _; exact Finset.mem_product.mpr ⟨Finset.mem_univ _, Finset.mem_univ _⟩
  · rintro ⟨t, p⟩ _
    have ht := points t
    refine Prod.ext (Fin.ext ?_) (Fin.ext ?_)
    · show t.val / 64 * 64 + (t.val % 64 * 8 + p.val) / 8 = t.val; omega
    · show (t.val % 64 * 8 + p.val) % 8 = p.val; omega
  · rintro ⟨b, n⟩ _
    exact Prod.ext (batch_pointOf b n) (token_pointOf b n)
  · intro x _; rfl

/-- RESULT 3 ends holding the sums over batch and token of the rows' gradients of `alpha`. -/
theorem result8 (h : Fin 96) : (dats m 0 c).arrAt 8 cfg0.N (ix2 0 h)
    = ∑ b : Fin 2, ∑ n : Fin 512, (argRow m c b n h).alphaGrad := by
  have hN : cfg0.N = 128 := N_0
  have hl : 127 < cfg0.N := by omega
  have hdis : ∀ t t' : Fin cfg0.N, (cfg0.win 8).flush t = true → (cfg0.win 8).flush t' = true → t ≠ t' →
      Disjoint ((cfg0.win 8).blk t).view.set ((cfg0.win 8).blk t').view.set := by
    intro t t' ht ht' hne
    have h1 := (flush0_8 t).mp ht
    have h2 := (flush0_8 t').mp ht'
    have h3 := points t
    have h4 := points t'
    exact absurd (Fin.ext (by omega)) hne
  obtain ⟨t, ht⟩ : ∃ t : Fin cfg0.N, t.val + 1 = cfg0.N := ⟨⟨127, hl⟩, hN.symm⟩
  have hf : (cfg0.win 8).flush t = true := (flush0_8 t).mpr (by omega)
  have e := congrFun ((dats m 0 c).read_blk_arrAt_eq_flushed 8 hdis cfg0.N t t.isLt hf) (ix2 0 h)
  rw [View.read_apply, emb8, Value.flushed8] at e
  refine e.trans ?_
  show (outsAt0 m c t.val t.isLt).2.2.1 (ix2 0 h) = _
  rw [acc_eq, ← sum_points fun b n => (argRow m c b n h).alphaGrad, ht, Finset.sum_range]
  exact Finset.sum_congr rfl fun t _ => by unfold added; rw [dif_pos t.isLt]

end Cert.KernelIdeal.Arrays

end
-- ==== Proof.ReferenceResults.lean ====
/- The reference's six result arrays, element by element, as the row functions of `Row.lean` at the rows of the argument
   arrays. -/
module

public import proofs.«01_k».proof.Proof.Reference

@[expose] public section

set_option maxRecDepth 16384

noncomputable section

namespace Cert.ReferenceIdeal.Whole

open Cert.ReferenceIdeal Cert.ReferenceIdeal.Gen Cert.ReferenceIdeal.Value Idealize.ShloMosaic Cert.Proof

variable (a0 : Vec Ideal S2x512x12288 .bf16) (a1 a2 : Vec Ideal S2x512x64 .f32) (a3 : Vec Ideal S96 .f32)
variable (a4 : Vec Ideal S2x512x96x128 .fp8e5m2) (a5 : Vec Ideal S2x512x96 .f32)
variable (b : Fin 2) (p : Fin 512) (h : Fin 96)

/-- The cosines, loaded whole. -/
theorem pay22_eq : k0_pay22 a0 a1 a2 a3 a4 a5 = k0_pay3 a1 := by
  unfold k0_pay22
  rw [View.ld_unit_zero (S := S2x512x64) hz1 _ a1]

/-- The sines, loaded whole. -/
theorem pay23_eq : k0_pay23 a0 a1 a2 a3 a4 a5 = k0_pay4 a2 := by
  unfold k0_pay23
  rw [View.ld_unit_zero (S := S2x512x64) hz2 _ a2]

/-- The int4 codes of the whole arrays. -/
theorem pay24_eq : k0_pay24 a0 a1 a2 a3 a4 a5 = k0_pay8 a1 a2 a0 a3 := by
  unfold k0_pay24
  rw [View.ld_unit_zero (S := S2x512x64) hz1 _ a1, View.ld_unit_zero (S := S2x512x64) hz2 _ a2,
    View.ld_unit_zero (S := S2x512x12288) hz0 _ a0, View.ld_unit_zero (S := S96) hz3 _ a3]

/-- The ratios of the whole arrays. -/
theorem pay25_eq : k0_pay25 a0 a1 a2 a3 a4 a5 = k0_pay9 a1 a2 a0 a3 := by
  unfold k0_pay25
  rw [View.ld_unit_zero (S := S2x512x64) hz1 _ a1, View.ld_unit_zero (S := S2x512x64) hz2 _ a2,
    View.ld_unit_zero (S := S2x512x12288) hz0 _ a0, View.ld_unit_zero (S := S96) hz3 _ a3]

/-- `alpha`'s gradients of the whole arrays. -/
theorem pay26_eq : k0_pay26 a0 a1 a2 a3 a4 a5
    = k0_pay12 (k0_pay6 a1 a2 a0) (k0_pay8 a1 a2 a0 a3) (k0_pay9 a1 a2 a0 a3) a4 a5 := by
  unfold k0_pay26
  rw [pay24_eq, pay25_eq, View.ld_unit_zero (S := S2x512x64) hz1 _ a1, View.ld_unit_zero (S := S2x512x64) hz2 _ a2,
    View.ld_unit_zero (S := S2x512x12288) hz0 _ a0, View.ld_unit_zero (S := S2x512x96x128) hz4 _ a4,
    View.ld_unit_zero (S := S2x512x96) hz5 _ a5]

/-- The numbers whose exponents are taken. -/
theorem pay27_eq : k0_pay27 a0 a1 a2 a3 a4 a5 = k0_pay15 (k0_pay3 a1) (k0_pay4 a2) (k0_pay9 a1 a2 a0 a3) a4 a5 := by
  unfold k0_pay27
  rw [pay22_eq, pay23_eq, pay25_eq, View.ld_unit_zero (S := S2x512x96x128) hz4 _ a4,
    View.ld_unit_zero (S := S2x512x96) hz5 _ a5]

/-- Which rows are rows of zeros. -/
theorem pay28_eq : k0_pay28 a0 a1 a2 a3 a4 a5 = k0_pay16 (k0_pay3 a1) (k0_pay4 a2) (k0_pay9 a1 a2 a0 a3) a4 a5 := by
  unfold k0_pay28
  rw [pay22_eq, pay23_eq, pay25_eq, View.ld_unit_zero (S := S2x512x96x128) hz4 _ a4,
    View.ld_unit_zero (S := S2x512x96) hz5 _ a5]

/-- Which candidates are at most the number. -/
theorem pay30_eq : k0_pay30 a0 a1 a2 a3 a4 a5 = k0_pay18 (k0_pay3 a1) (k0_pay4 a2) (k0_pay9 a1 a2 a0 a3) a4 a5 := by
  unfold k0_pay30
  rw [pay22_eq, pay23_eq, pay25_eq, View.ld_unit_zero (S := S2x512x96x128) hz4 _ a4,
    View.ld_unit_zero (S := S2x512x96) hz5 _ a5]

/-- The gradient turned back. -/
theorem keyGrad_eq (d : Fin 128) : k0_pay13 (k0_pay3 a1) (k0_pay4 a2) (k0_pay9 a1 a2 a0 a3) a4 a5 (ix4 b p h d)
    = (row a0 a1 a2 a3 a4 a5 b p h).keyGrad d :=
  pay13_read a0 a1 a2 a3 a4 a5 b p h _ d fun d => pay9_eq a0 a1 a2 a3 a4 a5 b p h d

/-- Its greatest magnitude. -/
theorem gradMax_eq : k0_pay14 (k0_pay3 a1) (k0_pay4 a2) (k0_pay9 a1 a2 a0 a3) a4 a5 (ix3 b p h)
    = (row a0 a1 a2 a3 a4 a5 b p h).gradMax := by
  refine (absMax_read b p h (k0_pay13 (k0_pay3 a1) (k0_pay4 a2) (k0_pay9 a1 a2 a0 a3) a4 a5) _ (.inl rfl) rfl).trans ?_
  exact congrArg absMax (funext fun d => keyGrad_eq a0 a1 a2 a3 a4 a5 b p h d)

/-- The number whose exponent is taken. -/
theorem perMax_eq : k0_pay27 a0 a1 a2 a3 a4 a5 (ix3 b p h) = (row a0 a1 a2 a3 a4 a5 b p h).gradMax * perMax := by
  rw [pay27_eq]
  refine (perMax_read b p h (k0_pay14 (k0_pay3 a1) (k0_pay4 a2) (k0_pay9 a1 a2 a0 a3) a4 a5)).trans ?_
  rw [gradMax_eq]

/-- Whether the row is one of zeros. -/
theorem isZero_eq : k0_pay28 a0 a1 a2 a3 a4 a5 (ix3 b p h)
    = BitVec.ofBool (decide ((row a0 a1 a2 a3 a4 a5 b p h).gradMax = 0)) := by
  rw [pay28_eq]
  refine (isZero_read b p h (k0_pay14 (k0_pay3 a1) (k0_pay4 a2) (k0_pay9 a1 a2 a0 a3) a4 a5)).trans ?_
  rw [gradMax_eq]

/-- Which candidates' powers of two are at most the number. -/
theorem atMost_eq (j : Fin 254) : k0_pay30 a0 a1 a2 a3 a4 a5 (ix4 b p h j)
    = BitVec.ofBool (decide (FloatOps.exp2 (F := Ideal) (φ := .f32) (candidate j)
        ≤ (row a0 a1 a2 a3 a4 a5 b p h).gradMax * perMax)) := by
  rw [pay30_eq]
  refine (atMost_read b p h (k0_pay15 (k0_pay3 a1) (k0_pay4 a2) (k0_pay9 a1 a2 a0 a3) a4 a5) (k0_pay17 (F := Ideal))
    _ _ j).trans ?_
  rw [← pay27_eq a0 a1 a2 a3 a4 a5, perMax_eq, pay17_read]

/-- The exponent of the row's scale. -/
theorem exponent_eq : k0_pay19 (k0_pay28 a0 a1 a2 a3 a4 a5) (k0_pay29 a0 a1 a2 a3 a4 a5) (k0_pay30 a0 a1 a2 a3 a4 a5)
      (Scalar.ofBits .f32 0x3F800000#32) (ix3 b p h) = scaleExponent (row a0 a1 a2 a3 a4 a5 b p h).gradMax :=
  pay19_read b p h _ _ _ _ (isZero_eq a0 a1 a2 a3 a4 a5 b p h) (fun j => pay17_read b p h j)
    (atMost_eq a0 a1 a2 a3 a4 a5 b p h)

/-- RESULT 1: the row's e5m2 codes. -/
theorem gradCode_eq (d : Fin 128) : G6 a0 a1 a2 a3 a4 a5 (ix4 b p h d) = (row a0 a1 a2 a3 a4 a5 b p h).gradCode d := by
  refine (pay21_read b p h _ _ _ _ _ _ (perMax_eq a0 a1 a2 a3 a4 a5 b p h) (exponent_eq a0 a1 a2 a3 a4 a5 b p h) d).trans ?_
  rw [pay22_eq, pay23_eq, pay25_eq, keyGrad_eq]
  rfl

/-- RESULT 2: the row's e5m2 scale. -/
theorem gradScale_eq : G7 a0 a1 a2 a3 a4 a5 (ix3 b p h) = (row a0 a1 a2 a3 a4 a5 b p h).gradScale :=
  pay20_read b p h _ _ _ _ _ (perMax_eq a0 a1 a2 a3 a4 a5 b p h) (exponent_eq a0 a1 a2 a3 a4 a5 b p h)

/-- RESULT 4: the row's gradient of `alpha`. -/
theorem alphaGrad_eq : G9 a0 a1 a2 a3 a4 a5 (ix3 b p h) = (row a0 a1 a2 a3 a4 a5 b p h).alphaGrad := by
  show k0_pay26 a0 a1 a2 a3 a4 a5 (ix3 b p h) = _
  rw [pay26_eq]
  refine (pay12_read a4 a5 b p h _ _ _).trans ?_
  simp only [pay6_eq a0 a1 a2 a3 a4 a5 b p h, pay8_eq a0 a1 a2 a3 a4 a5 b p h, pay9_eq a0 a1 a2 a3 a4 a5 b p h]
  rfl

/-- RESULT 5: the row's int4 codes as int8. -/
theorem keyCode_eq (d : Fin 128) : G10 a0 a1 a2 a3 a4 a5 (ix4 b p h d)
    = FloatOps.fptosi (F := Ideal) (φ := .f32) 8 ((row a0 a1 a2 a3 a4 a5 b p h).keyCode d) := by
  show FloatOps.fptosi (F := Ideal) (φ := .f32) 8 (k0_pay24 a0 a1 a2 a3 a4 a5 (ix4 b p h d)) = _
  rw [pay24_eq, pay8_eq]

/-- RESULT 6: the row's int4 scale. -/
theorem keyScale_eq : G11 a0 a1 a2 a3 a4 a5 (ix3 b p h) = (row a0 a1 a2 a3 a4 a5 b p h).keyScale :=
  pay7_eq a0 a1 a2 a3 a4 a5 b p h

/-- The sum over batch and token of a table, at a head. -/
theorem reduceAdd_read (A : FVec Ideal S2x512x96 .f32) :
    Ideal.reduceAdd reduces_S2x512x96_S96 A (ix1 h) = ∑ b : Fin 2, ∑ p : Fin 512, A (ix3 b p h) := by
  have hd (i : S2x512x96.Idx) : (reduces_S2x512x96_S96.drop i 0 : Nat) = i 2 :=
    Shape.Reduces.drop_apply_val reduces_S2x512x96_S96 i 0
  unfold Ideal.reduceAdd
  rw [← Finset.sum_product']
  refine Finset.sum_bij' (fun i _ => ((i 0 : Fin 2), (i 1 : Fin 512))) (fun x _ => ix3 x.1 x.2 h) ?_ ?_ ?_ ?_ ?_
  · intro i _; exact Finset.mem_product.mpr ⟨Finset.mem_univ _, Finset.mem_univ _⟩
  · intro x _
    refine Finset.mem_filter.mpr ⟨Finset.mem_univ _, ?_⟩
    rw [eq_ix1 (reduces_S2x512x96_S96.drop _)]
    exact congrArg ix1 (Fin.ext (hd _))
  · intro i hi
    have e := (Finset.mem_filter.mp hi).2
    have e2 : i 2 = h := Fin.ext (by rw [← hd i, e]; rfl)
    rw [← e2]
    exact ix3_eta i
  · intro x _; rfl
  · intro i hi
    have e := (Finset.mem_filter.mp hi).2
    have e2 : i 2 = h := Fin.ext (by rw [← hd i, e]; rfl)
    rw [← e2]
    exact congrArg A (ix3_eta i).symm

/-- RESULT 3 is the sum of result 4 over batch and token. -/
theorem pay1_read (A : FVec Ideal S2x512x96 .f32) :
    k0_pay1 A (ix2 0 h) = ∑ b : Fin 2, ∑ p : Fin 512, A (ix3 b p h) := by
  rw [← reduceAdd_read]
  pointwise [k0_pay1]

/-- RESULT 3: the sum over batch and token of the rows' gradients of `alpha`. -/
theorem alphaSum_eq : G8 a0 a1 a2 a3 a4 a5 (ix2 0 h)
    = ∑ b : Fin 2, ∑ p : Fin 512, (row a0 a1 a2 a3 a4 a5 b p h).alphaGrad :=
  (pay1_read h (k0_pay26 a0 a1 a2 a3 a4 a5)).trans
    (Finset.sum_congr rfl fun b _ => Finset.sum_congr rfl fun p _ => alphaGrad_eq a0 a1 a2 a3 a4 a5 b p h)

end Cert.ReferenceIdeal.Whole

end
-- ==== Proof.Equation.lean ====
/- The equation: from memories that agree on the six arguments, the kernel's six result arrays and the reference's are
   equal, element by element. -/
module

public import proofs.«01_k».proof.Proof.Arrays
public import proofs.«01_k».proof.Proof.ReferenceResults

@[expose] public section

set_option maxRecDepth 16384

noncomputable section

namespace Cert.Proof.Equation

open Cert.KernelIdeal Cert.KernelIdeal.Gen Idealize.ShloMosaic Idealize.ShloMosaic.TcCoe Idealize.SL.Sem
open Cert.ReferenceIdeal.Value (G6 G7 G8 G9 G10 G11)

variable (m : (ℓ : Loc nD τ sig) → Buf (Elt Ideal) ℓ) (c : Dev nD)

/-- Result 1, e5m2 codes of the key's gradient: the kernel's array is the reference's function of the arguments. -/
theorem equal6 : (dats m 0 c).arrAt 6 cfg0.N = G6 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  rw [eq_ix4 (n0 := 2) (n1 := 512) (n2 := 96) (n3 := 128) i]
  exact (Cert.KernelIdeal.Arrays.result6 m c (i 0) (i 1) (i 2) (i 3)).trans (Cert.ReferenceIdeal.Whole.gradCode_eq _ _ _ _ _ _ (i 0) (i 1) (i 2) (i 3)).symm

/-- Result 2, their scales: the kernel's array is the reference's function of the arguments. -/
theorem equal7 : (dats m 0 c).arrAt 7 cfg0.N = G7 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  rw [eq_ix3 (n0 := 2) (n1 := 512) (n2 := 96) i]
  exact (Cert.KernelIdeal.Arrays.result7 m c (i 0) (i 1) (i 2)).trans (Cert.ReferenceIdeal.Whole.gradScale_eq _ _ _ _ _ _ (i 0) (i 1) (i 2)).symm

/-- Result 3, the gradient of `alpha`: the kernel's array is the reference's function of the arguments. -/
theorem equal8 : (dats m 0 c).arrAt 8 cfg0.N = G8 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  obtain ⟨h, rfl⟩ : ∃ h : Fin 96, i = ix2 0 h := ⟨i 1, by
    rw [eq_ix2 (n0 := 1) (n1 := 96) i]
    exact congrArg (fun z => ix2 z (i 1)) (Subsingleton.elim _ _)⟩
  exact (Cert.KernelIdeal.Arrays.result8 m c h).trans (Cert.ReferenceIdeal.Whole.alphaSum_eq _ _ _ _ _ _ h).symm

/-- Result 4, its part at each token: the kernel's array is the reference's function of the arguments. -/
theorem equal9 : (dats m 0 c).arrAt 9 cfg0.N = G9 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  rw [eq_ix3 (n0 := 2) (n1 := 512) (n2 := 96) i]
  exact (Cert.KernelIdeal.Arrays.result9 m c (i 0) (i 1) (i 2)).trans (Cert.ReferenceIdeal.Whole.alphaGrad_eq _ _ _ _ _ _ (i 0) (i 1) (i 2)).symm

/-- Result 5, the int4 codes of the rotated key: the kernel's array is the reference's function of the arguments. -/
theorem equal10 : (dats m 0 c).arrAt 10 cfg0.N = G10 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  rw [eq_ix4 (n0 := 2) (n1 := 512) (n2 := 96) (n3 := 128) i]
  exact (Cert.KernelIdeal.Arrays.result10 m c (i 0) (i 1) (i 2) (i 3)).trans (Cert.ReferenceIdeal.Whole.keyCode_eq _ _ _ _ _ _ (i 0) (i 1) (i 2) (i 3)).symm

/-- Result 6, their scales: the kernel's array is the reference's function of the arguments. -/
theorem equal11 : (dats m 0 c).arrAt 11 cfg0.N = G11 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  funext i
  rw [eq_ix3 (n0 := 2) (n1 := 512) (n2 := 96) i]
  exact (Cert.KernelIdeal.Arrays.result11 m c (i 0) (i 1) (i 2)).trans (Cert.ReferenceIdeal.Whole.keyScale_eq _ _ _ _ _ _ (i 0) (i 1) (i 2)).symm

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel as written runs, ends quiescent and leaves its arguments unchanged. -/
theorem kernel_frame : @Cert.quiescent_Kernel Cert.Kernel.Gen.facts := fun m ρ _ => Cert.Kernel.Gen.frame m ρ

/-- So does its idealization, -/
theorem kernelIdeal_frame : @Cert.quiescent_KernelIdeal Cert.KernelIdeal.Gen.facts := fun m ρ _ => Cert.KernelIdeal.Gen.frame m ρ

/-- and so does the reference's. -/
theorem referenceIdeal_frame : @Cert.quiescent_ReferenceIdeal Cert.ReferenceIdeal.Gen.facts :=
  fun m ρ _ => Cert.ReferenceIdeal.Gen.frame m ρ

/-- At the ideal instance, from memories that agree on the arguments, the kernel's six results and the reference's are
    equal: both end at the reference's functions `G6` to `G11` of the arguments. -/
theorem algebraic : @Cert.algebraic_KernelIdeal_ReferenceIdeal Cert.KernelIdeal.Gen.facts Cert.ReferenceIdeal.Gen.facts := by
  intro m ρ m' ρ' _ hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨h6, h7, h8, h9, h10, h11, hk⟩ := h c
  obtain ⟨e0, e1, e2, e3, e4, e5⟩ := hagree c
  rw [e0, e1, e2, e3, e4, e5] at h6 h7 h8 h9 h10 h11
  exact ⟨h6.trans (Equation.equal6 m c).symm, h7.trans (Equation.equal7 m c).symm, h8.trans (Equation.equal8 m c).symm,
    h9.trans (Equation.equal9 m c).symm, h10.trans (Equation.equal10 m c).symm, h11.trans (Equation.equal11 m c).symm, hk⟩

/-- The certificate's claim. -/
theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
